-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x2816 : Shape := ⟨3, ![256, 1, 2816]⟩
abbrev S27520x704x3 : Shape := ⟨3, ![27520, 704, 3]⟩
abbrev S27520 : Shape := ⟨1, ![27520]⟩
abbrev S3x704x27520 : Shape := ⟨3, ![3, 704, 27520]⟩
abbrev S256x2816 : Shape := ⟨2, ![256, 2816]⟩
abbrev S1x27520 : Shape := ⟨2, ![1, 27520]⟩
abbrev S256x27520 : Shape := ⟨2, ![256, 27520]⟩
abbrev S3x704x512 : Shape := ⟨3, ![3, 704, 512]⟩
abbrev S1x512 : Shape := ⟨2, ![1, 512]⟩
abbrev S256x512 : Shape := ⟨2, ![256, 512]⟩
abbrev S256x128 : Shape := ⟨2, ![256, 128]⟩
abbrev S256x128x1 : Shape := ⟨3, ![256, 128, 1]⟩
abbrev S1x32x512 : Shape := ⟨3, ![1, 32, 512]⟩
abbrev S32x512 : Shape := ⟨2, ![32, 512]⟩
abbrev S8x512 : Shape := ⟨2, ![8, 512]⟩
abbrev S2816x512 : Shape := ⟨2, ![2816, 512]⟩

abbrev nBuf : Space → Nat
  | .hbm => 7
  | .vmem => 8
  | .smem => 0
  | _ => 0

abbrev bufTy : (tb : Table) → Fin (tcTables nBuf tb) → BufTy
  | .hbm, ⟨0, _⟩ => ⟨S256x1x2816, .bf16⟩
  | .hbm, ⟨1, _⟩ => ⟨S27520x704x3, .i8⟩
  | .hbm, ⟨2, _⟩ => ⟨S27520, .f32⟩
  | .hbm, ⟨3, _⟩ => ⟨S3x704x27520, .i8⟩
  | .hbm, ⟨4, _⟩ => ⟨S256x2816, .bf16⟩
  | .hbm, ⟨5, _⟩ => ⟨S1x27520, .f32⟩
  | .hbm, ⟨6, _⟩ => ⟨S256x27520, .bf16⟩
  | .local _ .vmem, ⟨0, _⟩ => ⟨S256x2816, .bf16⟩
  | .local _ .vmem, ⟨1, _⟩ => ⟨S3x704x512, .i8⟩
  | .local _ .vmem, ⟨2, _⟩ => ⟨S3x704x512, .i8⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S256x2816, .bf16⟩
  | _, _ => ⟨S256x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x704x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x2816 : Shape := ⟨3, ![256, 1, 2816]⟩
abbrev S27520x704x3 : Shape := ⟨3, ![27520, 704, 3]⟩
abbrev S27520 : Shape := ⟨1, ![27520]⟩
abbrev S27520x704x1 : Shape := ⟨3, ![27520, 704, 1]⟩
abbrev S27520x704 : Shape := ⟨2, ![27520, 704]⟩
abbrev S_ : Shape := ⟨0, ![]⟩
abbrev S256x1x704 : Shape := ⟨3, ![256, 1, 704]⟩
abbrev S256x1x27520 : Shape := ⟨3, ![256, 1, 27520]⟩
abbrev S1x1x27520 : Shape := ⟨3, ![1, 1, 27520]⟩
abbrev S256x27520 : Shape := ⟨2, ![256, 27520]⟩

abbrev nBuf : Space → Nat
  | .hbm => 218
  | .vmem => 0
  | .smem => 0
  | _ => 0

abbrev hbmTy0_0 (i : Nat) : BufTy := match i % 128 with
  | 0 => ⟨S256x1x2816, .bf16⟩
  | 1 => ⟨S27520x704x3, .i8⟩
  | 2 => ⟨S27520, .f32⟩
  | 3 => ⟨S27520x704x3, .i32⟩
  | 4 => ⟨S27520x704x1, .i32⟩
  | 5 => ⟨S27520x704, .i32⟩
  | 6 => ⟨S27520x704x1, .i32⟩
  | 7 => ⟨S27520x704, .i32⟩
  | 8 => ⟨S_, .i32⟩
  | 9 => ⟨S27520x704, .i32⟩
  | 10 => ⟨S27520x704, .i32⟩
  | 11 => ⟨S27520x704, .i32⟩
  | 12 => ⟨S27520x704x1, .i32⟩
  | 13 => ⟨S27520x704, .i32⟩
  | 14 => ⟨S_, .i32⟩
  | 15 => ⟨S27520x704, .i32⟩
  | 16 => ⟨S27520x704, .i32⟩
  | 17 => ⟨S27520x704, .i32⟩
  | 18 => ⟨S_, .i32⟩
  | 19 => ⟨S27520x704, .i32⟩
  | 20 => ⟨S27520x704, .i32⟩
  | 21 => ⟨S_, .i32⟩
  | 22 => ⟨S27520x704, .i32⟩
  | 23 => ⟨S27520x704, .i32⟩
  | 24 => ⟨S_, .i32⟩
  | 25 => ⟨S27520x704, .i32⟩
  | 26 => ⟨S27520x704, .i32⟩
  | 27 => ⟨S_, .i32⟩
  | 28 => ⟨S27520x704, .i32⟩
  | 29 => ⟨S27520x704, .i32⟩
  | 30 => ⟨S_, .i32⟩
  | 31 => ⟨S27520x704, .i32⟩
  | 32 => ⟨S27520x704, .i32⟩
  | 33 => ⟨S_, .i32⟩
  | 34 => ⟨S27520x704, .i32⟩
  | 35 => ⟨S27520x704, .i32⟩
  | 36 => ⟨S27520x704, .f32⟩
  | 37 => ⟨S_, .i32⟩
  | 38 => ⟨S27520x704, .i32⟩
  | 39 => ⟨S27520x704, .i1⟩
  | 40 => ⟨S_, .f32⟩
  | 41 => ⟨S27520x704, .f32⟩
  | 42 => ⟨S27520x704, .f32⟩
  | 43 => ⟨S_, .f32⟩
  | 44 => ⟨S27520x704, .f32⟩
  | 45 => ⟨S27520x704, .f32⟩
  | 46 => ⟨S_, .i32⟩
  | 47 => ⟨S27520x704, .i32⟩
  | 48 => ⟨S27520x704, .i32⟩
  | 49 => ⟨S27520x704, .f32⟩
  | 50 => ⟨S_, .f32⟩
  | 51 => ⟨S27520x704, .f32⟩
  | 52 => ⟨S27520x704, .f32⟩
  | 53 => ⟨S27520x704, .f32⟩
  | 54 => ⟨S27520x704, .f32⟩
  | 55 => ⟨S27520x704, .f32⟩
  | 56 => ⟨S_, .f32⟩
  | 57 => ⟨S27520x704, .f32⟩
  | 58 => ⟨S27520x704, .f32⟩
  | 59 => ⟨S_, .f32⟩
  | 60 => ⟨S27520x704, .f32⟩
  | 61 => ⟨S27520x704, .f32⟩
  | 62 => ⟨S27520x704, .f32⟩
  | 63 => ⟨S27520x704, .bf16⟩
  | 64 => ⟨S256x1x704, .bf16⟩
  | 65 => ⟨S256x1x27520, .f32⟩
  | 66 => ⟨S_, .i32⟩
  | 67 => ⟨S27520x704, .i32⟩
  | 68 => ⟨S27520x704, .i32⟩
  | 69 => ⟨S_, .i32⟩
  | 70 => ⟨S27520x704, .i32⟩
  | 71 => ⟨S27520x704, .i32⟩
  | 72 => ⟨S_, .i32⟩
  | 73 => ⟨S27520x704, .i32⟩
  | 74 => ⟨S27520x704, .i32⟩
  | 75 => ⟨S_, .i32⟩
  | 76 => ⟨S27520x704, .i32⟩
  | 77 => ⟨S27520x704, .i32⟩
  | 78 => ⟨S_, .i32⟩
  | 79 => ⟨S27520x704, .i32⟩
  | 80 => ⟨S27520x704, .i32⟩
  | 81 => ⟨S_, .i32⟩
  | 82 => ⟨S27520x704, .i32⟩
  | 83 => ⟨S27520x704, .i32⟩
  | 84 => ⟨S27520x704, .f32⟩
  | 85 => ⟨S_, .i32⟩
  | 86 => ⟨S27520x704, .i32⟩
  | 87 => ⟨S27520x704, .i1⟩
  | 88 => ⟨S_, .f32⟩
  | 89 => ⟨S27520x704, .f32⟩
  | 90 => ⟨S27520x704, .f32⟩
  | 91 => ⟨S_, .f32⟩
  | 92 => ⟨S27520x704, .f32⟩
  | 93 => ⟨S27520x704, .f32⟩
  | 94 => ⟨S_, .i32⟩
  | 95 => ⟨S27520x704, .i32⟩
  | 96 => ⟨S27520x704, .i32⟩
  | 97 => ⟨S27520x704, .f32⟩
  | 98 => ⟨S_, .f32⟩
  | 99 => ⟨S27520x704, .f32⟩
  | 100 => ⟨S27520x704, .f32⟩
  | 101 => ⟨S27520x704, .f32⟩
  | 102 => ⟨S27520x704, .f32⟩
  | 103 => ⟨S27520x704, .f32⟩
  | 104 => ⟨S_, .f32⟩
  | 105 => ⟨S27520x704, .f32⟩
  | 106 => ⟨S27520x704, .f32⟩
  | 107 => ⟨S_, .f32⟩
  | 108 => ⟨S27520x704, .f32⟩
  | 109 => ⟨S27520x704, .f32⟩
  | 110 => ⟨S27520x704, .f32⟩
  | 111 => ⟨S27520x704, .bf16⟩
  | 112 => ⟨S256x1x704, .bf16⟩
  | 113 => ⟨S256x1x27520, .f32⟩
  | 114 => ⟨S_, .i32⟩
  | 115 => ⟨S27520x704, .i32⟩
  | 116 => ⟨S27520x704, .i32⟩
  | 117 => ⟨S_, .i32⟩
  | 118 => ⟨S27520x704, .i32⟩
  | 119 => ⟨S27520x704, .i32⟩
  | 120 => ⟨S_, .i32⟩
  | 121 => ⟨S27520x704, .i32⟩
  | 122 => ⟨S27520x704, .i32⟩
  | 123 => ⟨S_, .i32⟩
  | 124 => ⟨S27520x704, .i32⟩
  | 125 => ⟨S27520x704, .i32⟩
  | 126 => ⟨S_, .i32⟩
  | 127 => ⟨S27520x704, .i32⟩
  | _ => ⟨S256x1x2816, .bf16⟩

abbrev hbmTy0_1 (i : Nat) : BufTy := match i % 128 with
  | 0 => ⟨S27520x704, .i32⟩
  | 1 => ⟨S_, .i32⟩
  | 2 => ⟨S27520x704, .i32⟩
  | 3 => ⟨S27520x704, .i32⟩
  | 4 => ⟨S27520x704, .f32⟩
  | 5 => ⟨S_, .i32⟩
  | 6 => ⟨S27520x704, .i32⟩
  | 7 => ⟨S27520x704, .i1⟩
  | 8 => ⟨S_, .f32⟩
  | 9 => ⟨S27520x704, .f32⟩
  | 10 => ⟨S27520x704, .f32⟩
  | 11 => ⟨S_, .f32⟩
  | 12 => ⟨S27520x704, .f32⟩
  | 13 => ⟨S27520x704, .f32⟩
  | 14 => ⟨S_, .i32⟩
  | 15 => ⟨S27520x704, .i32⟩
  | 16 => ⟨S27520x704, .i32⟩
  | 17 => ⟨S27520x704, .f32⟩
  | 18 => ⟨S_, .f32⟩
  | 19 => ⟨S27520x704, .f32⟩
  | 20 => ⟨S27520x704, .f32⟩
  | 21 => ⟨S27520x704, .f32⟩
  | 22 => ⟨S27520x704, .f32⟩
  | 23 => ⟨S27520x704, .f32⟩
  | 24 => ⟨S_, .f32⟩
  | 25 => ⟨S27520x704, .f32⟩
  | 26 => ⟨S27520x704, .f32⟩
  | 27 => ⟨S_, .f32⟩
  | 28 => ⟨S27520x704, .f32⟩
  | 29 => ⟨S27520x704, .f32⟩
  | 30 => ⟨S27520x704, .f32⟩
  | 31 => ⟨S27520x704, .bf16⟩
  | 32 => ⟨S256x1x704, .bf16⟩
  | 33 => ⟨S256x1x27520, .f32⟩
  | 34 => ⟨S_, .i32⟩
  | 35 => ⟨S27520x704, .i32⟩
  | 36 => ⟨S27520x704, .i32⟩
  | 37 => ⟨S_, .i32⟩
  | 38 => ⟨S27520x704, .i32⟩
  | 39 => ⟨S27520x704, .i32⟩
  | 40 => ⟨S_, .i32⟩
  | 41 => ⟨S27520x704, .i32⟩
  | 42 => ⟨S27520x704, .i32⟩
  | 43 => ⟨S_, .i32⟩
  | 44 => ⟨S27520x704, .i32⟩
  | 45 => ⟨S27520x704, .i32⟩
  | 46 => ⟨S_, .i32⟩
  | 47 => ⟨S27520x704, .i32⟩
  | 48 => ⟨S27520x704, .i32⟩
  | 49 => ⟨S_, .i32⟩
  | 50 => ⟨S27520x704, .i32⟩
  | 51 => ⟨S27520x704, .i32⟩
  | 52 => ⟨S27520x704, .f32⟩
  | 53 => ⟨S_, .i32⟩
  | 54 => ⟨S27520x704, .i32⟩
  | 55 => ⟨S27520x704, .i1⟩
  | 56 => ⟨S_, .f32⟩
  | 57 => ⟨S27520x704, .f32⟩
  | 58 => ⟨S27520x704, .f32⟩
  | 59 => ⟨S_, .f32⟩
  | 60 => ⟨S27520x704, .f32⟩
  | 61 => ⟨S27520x704, .f32⟩
  | 62 => ⟨S_, .i32⟩
  | 63 => ⟨S27520x704, .i32⟩
  | 64 => ⟨S27520x704, .i32⟩
  | 65 => ⟨S27520x704, .f32⟩
  | 66 => ⟨S_, .f32⟩
  | 67 => ⟨S27520x704, .f32⟩
  | 68 => ⟨S27520x704, .f32⟩
  | 69 => ⟨S27520x704, .f32⟩
  | 70 => ⟨S27520x704, .f32⟩
  | 71 => ⟨S27520x704, .f32⟩
  | 72 => ⟨S_, .f32⟩
  | 73 => ⟨S27520x704, .f32⟩
  | 74 => ⟨S27520x704, .f32⟩
  | 75 => ⟨S_, .f32⟩
  | 76 => ⟨S27520x704, .f32⟩
  | 77 => ⟨S27520x704, .f32⟩
  | 78 => ⟨S27520x704, .f32⟩
  | 79 => ⟨S27520x704, .bf16⟩
  | 80 => ⟨S256x1x704, .bf16⟩
  | 81 => ⟨S256x1x27520, .f32⟩
  | 82 => ⟨S256x1x27520, .f32⟩
  | 83 => ⟨S256x1x27520, .f32⟩
  | 84 => ⟨S256x1x27520, .f32⟩
  | 85 => ⟨S1x1x27520, .f32⟩
  | 86 => ⟨S256x1x27520, .f32⟩
  | 87 => ⟨S256x1x27520, .f32⟩
  | 88 => ⟨S256x1x27520, .bf16⟩
  | 89 => ⟨S256x27520, .bf16⟩
  | _ => ⟨S256x1x2816, .bf16⟩

abbrev hbmTy (i : Nat) : BufTy := match i / 128 with
  | 0 => hbmTy0_0 i
  | 1 => hbmTy0_1 i
  | _ => ⟨S256x1x2816, .bf16⟩

abbrev bufTy : (tb : Table) → Fin (tcTables nBuf tb) → BufTy
  | .hbm, ⟨i, _⟩ => hbmTy i
  | _, _ => ⟨S256x1x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_13 : Ref sig .tc := ⟨.hbm, 66, rfl⟩
abbrev main_v48 : Ref sig .tc := ⟨.hbm, 67, rfl⟩
abbrev main_v49 : Ref sig .tc := ⟨.hbm, 68, rfl⟩
abbrev main_c_14 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_c_16 : Ref sig .tc := ⟨.hbm, 75, rfl⟩
abbrev main_v54 : Ref sig .tc := ⟨.hbm, 76, rfl⟩
abbrev main_v55 : Ref sig .tc := ⟨.hbm, 77, rfl⟩
abbrev main_c_17 : Ref sig .tc := ⟨.hbm, 78, rfl⟩
abbrev main_v56 : Ref sig .tc := ⟨.hbm, 79, rfl⟩
abbrev main_v57 : Ref sig .tc := ⟨.hbm, 80, rfl⟩
abbrev main_c_18 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_19 : Ref sig .tc := ⟨.hbm, 85, rfl⟩
abbrev main_v61 : Ref sig .tc := ⟨.hbm, 86, rfl⟩
abbrev main_v62 : Ref sig .tc := ⟨.hbm, 87, rfl⟩
abbrev main_cst_20 : Ref sig .tc := ⟨.hbm, 88, rfl⟩
abbrev main_v63 : Ref sig .tc := ⟨.hbm, 89, rfl⟩
abbrev main_v64 : Ref sig .tc := ⟨.hbm, 90, rfl⟩
abbrev main_cst_21 : Ref sig .tc := ⟨.hbm, 91, rfl⟩
abbrev main_v65 : Ref sig .tc := ⟨.hbm, 92, rfl⟩
abbrev main_v66 : Ref sig .tc := ⟨.hbm, 93, rfl⟩
abbrev main_c_22 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_24 : Ref sig .tc := ⟨.hbm, 104, rfl⟩
abbrev main_v75 : Ref sig .tc := ⟨.hbm, 105, rfl⟩
abbrev main_v76 : Ref sig .tc := ⟨.hbm, 106, rfl⟩
abbrev main_cst_25 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_26 : Ref sig .tc := ⟨.hbm, 114, rfl⟩
abbrev main_v83 : Ref sig .tc := ⟨.hbm, 115, rfl⟩
abbrev main_v84 : Ref sig .tc := ⟨.hbm, 116, rfl⟩
abbrev main_c_27 : Ref sig .tc := ⟨.hbm, 117, rfl⟩
abbrev main_v85 : Ref sig .tc := ⟨.hbm, 118, rfl⟩
abbrev main_v86 : Ref sig .tc := ⟨.hbm, 119, rfl⟩
abbrev main_c_28 : Ref sig .tc := ⟨.hbm, 120, rfl⟩
abbrev main_v87 : Ref sig .tc := ⟨.hbm, 121, rfl⟩
abbrev main_v88 : Ref sig .tc := ⟨.hbm, 122, rfl⟩
abbrev main_c_29 : Ref sig .tc := ⟨.hbm, 123, rfl⟩
abbrev main_v89 : Ref sig .tc := ⟨.hbm, 124, rfl⟩
abbrev main_v90 : Ref sig .tc := ⟨.hbm, 125, rfl⟩
abbrev main_c_30 : Ref sig .tc := ⟨.hbm, 126, rfl⟩
abbrev main_v91 : Ref sig .tc := ⟨.hbm, 127, rfl⟩
abbrev main_v92 : Ref sig .tc := ⟨.hbm, 128, rfl⟩
abbrev main_c_31 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_32 : Ref sig .tc := ⟨.hbm, 133, rfl⟩
abbrev main_v96 : Ref sig .tc := ⟨.hbm, 134, rfl⟩
abbrev main_v97 : Ref sig .tc := ⟨.hbm, 135, rfl⟩
abbrev main_cst_33 : Ref sig .tc := ⟨.hbm, 136, rfl⟩
abbrev main_v98 : Ref sig .tc := ⟨.hbm, 137, rfl⟩
abbrev main_v99 : Ref sig .tc := ⟨.hbm, 138, rfl⟩
abbrev main_cst_34 : Ref sig .tc := ⟨.hbm, 139, rfl⟩
abbrev main_v100 : Ref sig .tc := ⟨.hbm, 140, rfl⟩
abbrev main_v101 : Ref sig .tc := ⟨.hbm, 141, rfl⟩
abbrev main_c_35 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_36 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_37 : Ref sig .tc := ⟨.hbm, 152, rfl⟩
abbrev main_v110 : Ref sig .tc := ⟨.hbm, 153, rfl⟩
abbrev main_v111 : Ref sig .tc := ⟨.hbm, 154, rfl⟩
abbrev main_cst_38 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_39 : Ref sig .tc := ⟨.hbm, 162, rfl⟩
abbrev main_v118 : Ref sig .tc := ⟨.hbm, 163, rfl⟩
abbrev main_v119 : Ref sig .tc := ⟨.hbm, 164, rfl⟩
abbrev main_c_40 : Ref sig .tc := ⟨.hbm, 165, rfl⟩
abbrev main_v120 : Ref sig .tc := ⟨.hbm, 166, rfl⟩
abbrev main_v121 : Ref sig .tc := ⟨.hbm, 167, rfl⟩
abbrev main_c_41 : Ref sig .tc := ⟨.hbm, 168, rfl⟩
abbrev main_v122 : Ref sig .tc := ⟨.hbm, 169, rfl⟩
abbrev main_v123 : Ref sig .tc := ⟨.hbm, 170, rfl⟩
abbrev main_c_42 : Ref sig .tc := ⟨.hbm, 171, rfl⟩
abbrev main_v124 : Ref sig .tc := ⟨.hbm, 172, rfl⟩
abbrev main_v125 : Ref sig .tc := ⟨.hbm, 173, rfl⟩
abbrev main_c_43 : Ref sig .tc := ⟨.hbm, 174, rfl⟩
abbrev main_v126 : Ref sig .tc := ⟨.hbm, 175, rfl⟩
abbrev main_v127 : Ref sig .tc := ⟨.hbm, 176, rfl⟩
abbrev main_c_44 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c_45 : Ref sig .tc := ⟨.hbm, 181, rfl⟩
abbrev main_v131 : Ref sig .tc := ⟨.hbm, 182, rfl⟩
abbrev main_v132 : Ref sig .tc := ⟨.hbm, 183, rfl⟩
abbrev main_cst_46 : Ref sig .tc := ⟨.hbm, 184, rfl⟩
abbrev main_v133 : Ref sig .tc := ⟨.hbm, 185, rfl⟩
abbrev main_v134 : Ref sig .tc := ⟨.hbm, 186, rfl⟩
abbrev main_cst_47 : Ref sig .tc := ⟨.hbm, 187, rfl⟩
abbrev main_v135 : Ref sig .tc := ⟨.hbm, 188, rfl⟩
abbrev main_v136 : Ref sig .tc := ⟨.hbm, 189, rfl⟩
abbrev main_c_48 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_49 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_50 : Ref sig .tc := ⟨.hbm, 200, rfl⟩
abbrev main_v145 : Ref sig .tc := ⟨.hbm, 201, rfl⟩
abbrev main_v146 : Ref sig .tc := ⟨.hbm, 202, rfl⟩
abbrev main_cst_51 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩

abbrev nD : Nat := 1
abbrev τ : Topo := Topo.v7x

variable {F : FTy → Type} [FloatOps F]
-- ==== Proof.Fp6.lean ====
module

public import Idealize.ShloMosaic.Lib.ValueIdx
public import Idealize.ShloMosaic.Lib.BitcastFour
public import Idealize.ShloMosaic.PureOps.Ideal.Laws
public import Mathlib.Tactic.FinCases
public import Mathlib.Tactic.NormNum

@[expose] public section

set_option maxRecDepth 16384

noncomputable section

namespace Cert.Fp6

open Idealize.ShloMosaic

/-! ## The four codes of three packed bytes -/

/-- Code `f` of three packed bytes: bits `6 f` to `6 f + 5` of the 24 bits, `b0` the lowest byte. -/
def code (f : Fin 4) (b0 b1 b2 : BitVec 8) : BitVec 8 :=
  match f with
  | ⟨0, _⟩ => b0 &&& 0x3F#8
  | ⟨1, _⟩ => ((b0 >>> 6) &&& 0x03#8) ||| ((b1 <<< 2) &&& 0x3C#8)
  | ⟨2, _⟩ => ((b1 >>> 4) &&& 0x0F#8) ||| ((b2 <<< 4) &&& 0x30#8)
  | ⟨3, _⟩ => b2 >>> 2

/-- The reference's code `f`: the three bytes joined to one word, shifted right by `6 f` and masked to six bits. -/
def refCode (f : Fin 4) (b0 b1 b2 : BitVec 8) : BitVec 32 :=
  IntOp.andi (IntOp.shrsi .host
    (IntOp.ori (IntOp.ori (b0.setWidth 32) (IntOp.shli .host (b1.setWidth 32) 8#32)) (IntOp.shli .host (b2.setWidth 32) 16#32))
    (BitVec.ofNat 32 (6 * f.val))) 63#32

/-- A code is below 64. -/
theorem code_lt (f : Fin 4) (b0 b1 b2 : BitVec 8) : (code f b0 b1 b2).toNat < 64 := by
  have h : code f b0 b1 b2 = code f b0 b1 b2 &&& 63#8 := by
    apply BitVec.eq_of_getLsbD_eq
    intro j hj
    fin_cases f <;> interval_cases j <;> simp [code]
  rw [h, BitVec.toNat_and]
  exact lt_of_le_of_lt Nat.and_le_right (by decide)

/-- The reference's code is the code. -/
theorem refCode_eq (f : Fin 4) (b0 b1 b2 : BitVec 8) : refCode f b0 b1 b2 = (code f b0 b1 b2).setWidth 32 := by
  apply BitVec.eq_of_getLsbD_eq
  intro j hj
  fin_cases f <;> interval_cases j <;>
    simp [code, refCode, IntOp.andi, IntOp.ori, IntOp.shrsi, IntOp.shli, BitVec.getElem_sshiftRight]

/-! ## The decoded values -/

/-- The byte `s 0 0 e e e m m` of a code `s e e e m m`. -/
def spreadByte (c : BitVec 8) : BitVec 8 := (c + 0x60#8) &&& 0x9F#8

/-- The reference's decoding of a code, as it computes it: sign, exponent and mantissa taken apart, the value put together
    from them. -/
def e3m2 (c : BitVec 32) : Ideal .f32 :=
  FloatOps.mulf
    (FloatOps.subf (FloatOps.ofBits .f32 0x3F800000#32)
      (FloatOps.mulf (FloatOps.ofBits .f32 0x40000000#32) (FloatOps.sitofp .f32 (IntOp.shrsi .host c 5#32))))
    (Scalar.select
      (IntOp.cmpi .eq (IntOp.andi (IntOp.shrsi .host c 2#32) 7#32) 0#32)
      (FloatOps.mulf (FloatOps.sitofp .f32 (IntOp.andi c 3#32)) (FloatOps.ofBits .f32 0x3D800000#32))
      (FloatOps.mulf
        (FloatOps.addf (FloatOps.ofBits .f32 0x40800000#32) (FloatOps.sitofp .f32 (IntOp.andi c 3#32)))
        (FloatOps.mulf
          (FloatOps.sitofp .f32 (IntOp.shli .host 1#32 (IntOp.andi (IntOp.shrsi .host c 2#32) 7#32)))
          (FloatOps.ofBits .f32 0x3D000000#32))))

/-- The kernel's decoding of a code: the value the spread byte has as an 8-bit float of five exponent bits. -/
def e5m2 (c : BitVec 8) : Ideal .fp8e5m2 := FloatOps.ofBits .fp8e5m2 (spreadByte c)

/-- An integer read as a float is the integer. -/
theorem sitofp_eq (b : BitVec 32) : (FloatOps.sitofp .f32 b : Ideal .f32) = ((b.toInt : ℝ) : EReal) := rfl

set_option maxHeartbeats 4000000 in
/-- The spread byte's value, times 4096, is the code's value: 64 codes. -/
theorem e5m2_mul_ofNat (n : Nat) (hn : n < 64) :
    e5m2 (BitVec.ofNat 8 n) * (FloatOps.ofBits .f32 0x45800000#32 : Ideal .f32) = e3m2 ((BitVec.ofNat 8 n).setWidth 32) := by
  interval_cases n <;>
    simp [e5m2, e3m2, spreadByte, sitofp_eq, Ideal.ofBits, Ideal.ieee, IntOp.andi, IntOp.shrsi, IntOp.shli, IntOp.cmpi, Scalar.select,
      BitVec.toInt, ← EReal.coe_mul, ← EReal.coe_sub, ← EReal.coe_add, -EReal.coe_mul] <;>
    simp only [← EReal.coe_one, ← EReal.coe_mul, ← EReal.coe_sub, ← EReal.coe_add, ← EReal.coe_neg, EReal.coe_eq_coe_iff] <;>
    norm_num

/-- The kernel's value of the code of three packed bytes, times 4096, is the reference's. -/
theorem e5m2_code_mul (f : Fin 4) (b0 b1 b2 : BitVec 8) :
    e5m2 (code f b0 b1 b2) * (FloatOps.ofBits .f32 0x45800000#32 : Ideal .f32) = e3m2 (refCode f b0 b1 b2) := by
  rw [refCode_eq]
  have h := e5m2_mul_ofNat (code f b0 b1 b2).toNat (code_lt f b0 b1 b2)
  rwa [BitVec.ofNat_toNat, BitVec.setWidth_eq] at h

end Cert.Fp6

end

end
-- ==== Proof.RefValue.lean ====
module

public import proofs.«01_k».proof.Proof.Gen.ReferenceIdeal.Run
public import proofs.«01_k».proof.Proof.Gen.ReferenceIdeal.Read
public import proofs.«01_k».proof.Proof.Fp6

@[expose] public section

set_option maxRecDepth 16384

noncomputable section

namespace Cert.ReferenceIdeal

open Cert.ReferenceIdeal.Gen Cert.ReferenceIdeal.Read Cert.Fp6
open Idealize.ShloMosaic
open scoped BigOperators

variable (x0 : (⟨S256x1x2816, .bf16⟩ : BufTy).Contents (Elt Ideal)) (x1 : (⟨S27520x704x3, .i8⟩ : BufTy).Contents (Elt Ideal))
  (x2 : (⟨S27520, .f32⟩ : BufTy).Contents (Elt Ideal))

/-- The three bytes of a packed row, joined to one word. -/
theorem word_apply (n : Fin 27520) (p : Fin 704) :
    val_main_v12 (F := Ideal) x1 (ValueIdx.ix2 n p)
      = IntOp.ori (IntOp.ori ((x1 (ValueIdx.ix3 n p (0 : Fin 3)) : BitVec 8).setWidth 32) (IntOp.shli .host ((x1 (ValueIdx.ix3 n p (1 : Fin 3)) : BitVec 8).setWidth 32) 8#32))
          (IntOp.shli .host ((x1 (ValueIdx.ix3 n p (2 : Fin 3)) : BitVec 8).setWidth 32) 16#32) := by
  have h0 : idx_main_v1 (idx_main_v2 (ValueIdx.ix2 n p)) = ValueIdx.ix3 n p (0 : Fin 3) := by
    funext a
    match a with
    | ⟨0, _⟩ => apply Fin.ext; show (n.val * 704 + p.val) / 704 = n.val; omega
    | ⟨1, _⟩ => apply Fin.ext; show (n.val * 704 + p.val) / 1 % 704 = p.val; omega
    | ⟨2, _⟩ => rfl
  have h1 : idx_main_v3 (idx_main_v4 (ValueIdx.ix2 n p)) = ValueIdx.ix3 n p (1 : Fin 3) := by
    funext a
    match a with
    | ⟨0, _⟩ => apply Fin.ext; show (n.val * 704 + p.val) / 704 = n.val; omega
    | ⟨1, _⟩ => apply Fin.ext; show (n.val * 704 + p.val) / 1 % 704 = p.val; omega
    | ⟨2, _⟩ => rfl
  have h2 : idx_main_v8 (idx_main_v9 (ValueIdx.ix2 n p)) = ValueIdx.ix3 n p (2 : Fin 3) := by
    funext a
    match a with
    | ⟨0, _⟩ => apply Fin.ext; show (n.val * 704 + p.val) / 704 = n.val; omega
    | ⟨1, _⟩ => apply Fin.ext; show (n.val * 704 + p.val) / 1 % 704 = p.val; omega
    | ⟨2, _⟩ => rfl
  rw [val_main_v12_apply, val_main_v7_apply, val_main_v6_apply, val_main_v11_apply, val_main_v2_apply, val_main_v1_apply,
    val_main_v4_apply, val_main_v3_apply, val_main_v9_apply, val_main_v8_apply, h0, h1, h2]
  rfl

/-- The decoded weights of field 0, -/
theorem weight_0 (n : Fin 27520) (p : Fin 704) : val_main_v45 (F := Ideal) x1 (ValueIdx.ix2 n p)
    = e3m2 (refCode 0 (x1 (ValueIdx.ix3 n p (0 : Fin 3))) (x1 (ValueIdx.ix3 n p (1 : Fin 3))) (x1 (ValueIdx.ix3 n p (2 : Fin 3)))) := by
  unfold refCode
  rw [← word_apply]
  rfl
/-- of field 1, -/
theorem weight_1 (n : Fin 27520) (p : Fin 704) : val_main_v80 (F := Ideal) x1 (ValueIdx.ix2 n p)
    = e3m2 (refCode 1 (x1 (ValueIdx.ix3 n p (0 : Fin 3))) (x1 (ValueIdx.ix3 n p (1 : Fin 3))) (x1 (ValueIdx.ix3 n p (2 : Fin 3)))) := by
  unfold refCode
  rw [← word_apply]
  rfl
/-- of field 2, -/
theorem weight_2 (n : Fin 27520) (p : Fin 704) : val_main_v115 (F := Ideal) x1 (ValueIdx.ix2 n p)
    = e3m2 (refCode 2 (x1 (ValueIdx.ix3 n p (0 : Fin 3))) (x1 (ValueIdx.ix3 n p (1 : Fin 3))) (x1 (ValueIdx.ix3 n p (2 : Fin 3)))) := by
  unfold refCode
  rw [← word_apply]
  rfl
/-- and of field 3. -/
theorem weight_3 (n : Fin 27520) (p : Fin 704) : val_main_v150 (F := Ideal) x1 (ValueIdx.ix2 n p)
    = e3m2 (refCode 3 (x1 (ValueIdx.ix3 n p (0 : Fin 3))) (x1 (ValueIdx.ix3 n p (1 : Fin 3))) (x1 (ValueIdx.ix3 n p (2 : Fin 3)))) := by
  unfold refCode
  rw [← word_apply]
  rfl

/-- The activations of field `f` at a packed row: every fourth column, from column `f` on. -/
theorem acts_apply (f : Fin 4) (h : S256x1x2816.SlicesBy ![0, 0, f.val] ![1, 1, 4] S256x1x704) (r : Fin 256) (p : Fin 704) :
    Host.slice S256x1x704 ![0, 0, f.val] ![1, 1, 4] x0 h (ValueIdx.ix3 r (0 : Fin 1) p)
      = x0 (ValueIdx.ix3 r (0 : Fin 1) (⟨4 * p.val + f.val, by omega⟩ : Fin 2816)) := by
  show x0 _ = x0 _
  congr 1
  funext a
  match a with
  | ⟨0, _⟩ => apply Fin.ext; show 0 + 1 * r.val = r.val; omega
  | ⟨1, _⟩ => rfl
  | ⟨2, _⟩ => apply Fin.ext; show f.val + 4 * p.val = 4 * p.val + f.val; omega

/-- One field's part of the product at row `r` and column `n`. -/
def fieldSum (f : Fin 4) (r : Fin 256) (n : Fin 27520) : EReal :=
  ∑ p : Fin 704, (x0 (ValueIdx.ix3 r (0 : Fin 1) (⟨4 * p.val + f.val, by omega⟩ : Fin 2816)) : EReal)
    * e3m2 (refCode f (x1 (ValueIdx.ix3 n p (0 : Fin 3))) (x1 (ValueIdx.ix3 n p (1 : Fin 3))) (x1 (ValueIdx.ix3 n p (2 : Fin 3))))

/-- Field 0's product, -/
theorem dot_0 (r : Fin 256) (n : Fin 27520) : val_main_v47 (F := Ideal) x0 x1 (ValueIdx.ix3 r (0 : Fin 1) n) = fieldSum x0 x1 0 r n := by
  rw [val_main_v47_apply]
  refine Finset.sum_congr rfl fun p _ => ?_
  exact congrArg₂ (· * ·) ((congrArg (val_main_v46 (F := Ideal) x0) (ValueIdx.eq_ix3 _)).trans (acts_apply x0 0 _ r p))
    ((congrArg (val_main_v45 (F := Ideal) x1) (ValueIdx.eq_ix2 _)).trans (weight_0 x1 n p))
/-- field 1's, -/
theorem dot_1 (r : Fin 256) (n : Fin 27520) : val_main_v82 (F := Ideal) x0 x1 (ValueIdx.ix3 r (0 : Fin 1) n) = fieldSum x0 x1 1 r n := by
  rw [val_main_v82_apply]
  refine Finset.sum_congr rfl fun p _ => ?_
  exact congrArg₂ (· * ·) ((congrArg (val_main_v81 (F := Ideal) x0) (ValueIdx.eq_ix3 _)).trans (acts_apply x0 1 _ r p))
    ((congrArg (val_main_v80 (F := Ideal) x1) (ValueIdx.eq_ix2 _)).trans (weight_1 x1 n p))
/-- field 2's, -/
theorem dot_2 (r : Fin 256) (n : Fin 27520) : val_main_v117 (F := Ideal) x0 x1 (ValueIdx.ix3 r (0 : Fin 1) n) = fieldSum x0 x1 2 r n := by
  rw [val_main_v117_apply]
  refine Finset.sum_congr rfl fun p _ => ?_
  exact congrArg₂ (· * ·) ((congrArg (val_main_v116 (F := Ideal) x0) (ValueIdx.eq_ix3 _)).trans (acts_apply x0 2 _ r p))
    ((congrArg (val_main_v115 (F := Ideal) x1) (ValueIdx.eq_ix2 _)).trans (weight_2 x1 n p))
/-- and field 3's. -/
theorem dot_3 (r : Fin 256) (n : Fin 27520) : val_main_v152 (F := Ideal) x0 x1 (ValueIdx.ix3 r (0 : Fin 1) n) = fieldSum x0 x1 3 r n := by
  rw [val_main_v152_apply]
  refine Finset.sum_congr rfl fun p _ => ?_
  exact congrArg₂ (· * ·) ((congrArg (val_main_v151 (F := Ideal) x0) (ValueIdx.eq_ix3 _)).trans (acts_apply x0 3 _ r p))
    ((congrArg (val_main_v150 (F := Ideal) x1) (ValueIdx.eq_ix2 _)).trans (weight_3 x1 n p))

/-- The reference's result at row `r` and column `n`: the four fields' sums added up, times the column's scale. -/
theorem ref_apply (r : Fin 256) (n : Fin 27520) :
    val_main_v160 (F := Ideal) x0 x1 x2 (ValueIdx.ix2 r n)
      = (fieldSum x0 x1 0 r n + fieldSum x0 x1 1 r n + fieldSum x0 x1 2 r n + fieldSum x0 x1 3 r n) * x2 (ValueIdx.ix1 n) := by
  have hi : idx_main_v160 (ValueIdx.ix2 r n) = ValueIdx.ix3 r (0 : Fin 1) n := by
    funext a
    match a with
    | ⟨0, _⟩ => apply Fin.ext; show (r.val * 27520 + n.val) / 27520 = r.val; omega
    | ⟨1, _⟩ => rfl
    | ⟨2, _⟩ => apply Fin.ext; show (r.val * 27520 + n.val) % 27520 = n.val; omega
  rw [val_main_v160_apply, hi, val_main_v159_apply, val_main_v158_apply, val_main_v155_apply, val_main_v154_apply, val_main_v153_apply,
    val_main_v157_apply, val_main_v156_apply, dot_0, dot_1, dot_2, dot_3]
  have e : idx_main_v156 (idx_main_v157 (ValueIdx.ix3 r (0 : Fin 1) n)) = ValueIdx.ix1 n := by
    funext a
    match a with
    | ⟨0, _⟩ => rfl
  rw [e]
  rfl

end Cert.ReferenceIdeal

end

end
-- ==== Proof.KBody.lean ====
module

public import proofs.«01_k».proof.Proof.Gen.Kernel.Frame
public import proofs.«01_k».proof.Proof.Gen.Kernel.Skeleton
public import Idealize.ShloMosaic.Lib.Pipeline.KitQuiescent
public import Idealize.ShloMosaic.Lib.Pipeline.TableIdle
public import Idealize.ShloMosaic.Lib.Tactic
public import Idealize.ShloMosaic.Lib.VecWindow
public import Idealize.ShloMosaic.Lib.ValueIdx

@[expose] public section

set_option maxRecDepth 16384

noncomputable section

namespace Cert.Kernel

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-- The condition of the kernel's one branch: the grid point is the first. -/
abbrev firstPoint (i : grid0.Coords) : Prop :=
  Scalar.cmpi .ne (Scalar.extui (Scalar.cmpi .eq (BitVec.ofNat 32 (i 0).val) 0#32) : BitVec 32) 0#32 = 1#1

/-- A unit box of an array of contents `X`: the box's words. -/
abbrev box {s : Shape} {e : EltTy} (X : s.Idx → Elt F e) (o size : Fin s.rank → ℕ) (inb : ∀ a, o a + size a ≤ s.size a) :
    (Rect.unit (s := s) o size inb).toLoadRect.shape.Idx → Elt F e :=
  fun x => X ((Rect.unit (s := s) o size inb).toLoadRect.idx x)

/-! ## The decoded weights -/

/-- Rows `32 r` to `32 r + 31` of a byte plane lie in the window. -/
theorem inb_rows (p : Fin 3) (r : Fin 22) (a : Fin 3) : (![p.val, 32 * r.val, 0] : Fin 3 → ℕ) a + S1x32x512.size a ≤ S3x704x512.size a := by
  have hp := p.isLt
  have hr := r.isLt
  match a with
  | ⟨0, _⟩ => show p.val + 1 ≤ 3; omega
  | ⟨1, _⟩ => show 32 * r.val + 32 ≤ 704; omega
  | ⟨2, _⟩ => show 0 + 512 ≤ 512; omega

/-- The bytes of plane `p`, rows `32 r` to `32 r + 31`, four rows to a 32-bit word. -/
def words (W : S3x704x512.Idx → Elt F .i8) (p : Fin 3) (r : Fin 22) : IVec S8x512 32 :=
  bitcast S8x512 32 (shapeCast S32x512 (box W ![p.val, 32 * r.val, 0] S1x32x512.size (inb_rows p r)) shapeCasts_S1x32x512_S32x512 : IVec S32x512 8)
    bitcasts_S32x512_w8_S8x512_w32

/-- Every byte of a word, a code `s e e e m m` in its low six bits, becomes the byte `s 0 0 e e e m m`. -/
def spread (w : IVec S8x512 32) : IVec S8x512 32 :=
  andi (addi w (broadcast S8x512 1616928864#32)) (broadcast S8x512 2678038431#32)

/-- The words of field `f` of the packed rows whose three bytes are in the words `b0`, `b1`, `b2`. -/
def fieldWords (f : Fin 4) (b0 b1 b2 : IVec S8x512 32) : IVec S8x512 32 :=
  match f with
  | ⟨0, _⟩ => spread (andi b0 (broadcast S8x512 1061109567#32))
  | ⟨1, _⟩ => spread (ori (andi (shrui b0 (broadcast S8x512 6#32)) (broadcast S8x512 50529027#32))
      (andi (shli b1 (broadcast S8x512 2#32)) (broadcast S8x512 1010580540#32)))
  | ⟨2, _⟩ => spread (ori (andi (shrui b1 (broadcast S8x512 4#32)) (broadcast S8x512 252645135#32))
      (andi (shli b2 (broadcast S8x512 4#32)) (broadcast S8x512 808464432#32)))
  | ⟨3, _⟩ => ori (andi b2 (broadcast S8x512 2155905152#32))
      (andi (shrui b2 (broadcast S8x512 2#32)) (broadcast S8x512 522133279#32))

/-- Field `f` of packed rows `32 r` to `32 r + 31`, decoded. -/
def piece (W : S3x704x512.Idx → Elt F .i8) (r : Fin 22) (f : Fin 4) : FVec F S32x512 .bf16 :=
  extf .bf16 (bitcastToFloat .fp8e5m2 (bitcast S32x512 8 (fieldWords f (words W 0 r) (words W 1 r) (words W 2 r)) bitcasts_S8x512_w32_S32x512_w8) : FVec F S32x512 .fp8e5m2)
    bitsLt_fp8e5m2_bf16

/-- The 88 decoded pieces, in the order they are laid on top of each other: four fields for each 32 packed rows. -/
def pieces (W : S3x704x512.Idx → Elt F .i8) : List ((s : Shape) × (s.Idx → Elt F .bf16)) :=
  List.ofFn fun n : Fin 88 => ⟨S32x512, piece W ⟨n.val / 4, by omega⟩ ⟨n.val % 4, by omega⟩⟩

/-- The pieces stack to the weight matrix's shape. -/
theorem concatenates_pieces (W : S3x704x512.Idx → Elt F .i8) : Shape.Concatenates ((pieces (F := F) W).map (·.1)) S2816x512 0 := by
  have e : (pieces (F := F) W).map (·.1) = List.ofFn fun _ : Fin 88 => S32x512 := by
    unfold pieces; rw [List.map_ofFn]; rfl
  rw [e]; decide

/-- The decoded weight matrix of a block. -/
def wmat (W : S3x704x512.Idx → Elt F .i8) : FVec F S2816x512 .bf16 :=
  concatenate S2816x512 0 (pieces W) (concatenates_pieces W)

/-- What the body leaves in the result's block from the permuted activations `XP`, the packed block `W` and the scales `S`. -/
def outBlock (XP : S256x2816.Idx → Elt F .bf16) (W : S3x704x512.Idx → Elt F .i8) (S : S1x512.Idx → Elt F .f32) : S256x512.Idx → Elt F .bf16 :=
  k0_pay2 (wmat W) XP S

/-! ## The permuted activations -/

/-- Columns `128 b` to `128 b + 127` lie in the activations. -/
theorem inb_cols (b : Fin 22) (a : Fin 2) : (![0, 128 * b.val] : Fin 2 → ℕ) a + S256x128.size a ≤ S256x2816.size a := by
  have hb := b.isLt
  match a with
  | ⟨0, _⟩ => show 0 + 256 ≤ 256; omega
  | ⟨1, _⟩ => show 128 * b.val + 128 ≤ 2816; omega

/-- Columns `128 b` to `128 b + 127` of the activations, permuted. -/
def permPiece (X : S256x2816.Idx → Elt F .bf16) (b : Fin 22) : S256x128.Idx → Elt F .bf16 :=
  k0_pay4 k0_pay3 (box X ![0, 128 * b.val] S256x128.size (inb_cols b))

/-- The 22 stores of permuted columns, the last first. -/
def permPieces (X : S256x2816.Idx → Elt F .bf16) : List (View.Piece (Elt F) S256x2816 .bf16) :=
  List.ofFn fun k : Fin 22 => ⟨Rect.unit (s := S256x2816) ![0, 128 * (21 - k.val)] S256x128.size (inb_cols ⟨21 - k.val, by omega⟩),
    permPiece X ⟨21 - k.val, by omega⟩⟩

/-- The permuted activations: every group of 128 columns permuted by itself. -/
def permuted (X : S256x2816.Idx → Elt F .bf16) : S256x2816.Idx → Elt F .bf16 := fun y =>
  permPiece X ⟨(y 1).val / 128, by have := (y 1).isLt; change (y 1).val < 2816 at this; omega⟩
    (ValueIdx.ix2 (y 0) (⟨(y 1).val % 128, Nat.mod_lt _ (by decide)⟩ : Fin 128))

/-- The 22 stores leave the permuted activations, whatever the buffer held. -/
theorem read_permPieces {sp : Space} (v : View sig .tc sp S256x2816 .bf16) (f : v.ty.Contents (Elt F)) (X : S256x2816.Idx → Elt F .bf16) :
    v.read (Elt F) (v.writes (Elt F) f (permPieces X)) = permuted X := by
  funext y
  refine View.read_writes_apply_of_pieces v f (permuted X) (permPieces X) ?_ y ?_
  · intro p hp x
    obtain ⟨k, rfl⟩ := (List.mem_ofFn' _ _).mp hp
    have hx0 : (x 0).val < 256 := (x 0).isLt
    have hx1 : (x 1).val < 128 := (x 1).isLt
    have hk := k.isLt
    unfold permuted
    show permPiece X _ x = permPiece X _ _
    have h1 : (((Rect.unit (s := S256x2816) ![0, 128 * (21 - k.val)] S256x128.size (inb_cols ⟨21 - k.val, by omega⟩)).emb x) 1).val
        = 128 * (21 - k.val) + 1 * (x 1).val := rfl
    have h0 : (((Rect.unit (s := S256x2816) ![0, 128 * (21 - k.val)] S256x128.size (inb_cols ⟨21 - k.val, by omega⟩)).emb x) 0).val
        = 0 + 1 * (x 0).val := rfl
    congr 1
    · apply Fin.ext
      show 21 - k.val = _ / 128
      rw [h1]; omega
    · funext a
      match a with
      | ⟨0, _⟩ => apply Fin.ext; show (x 0).val = _; exact (by rw [h0]; omega)
      | ⟨1, _⟩ => apply Fin.ext; show (x 1).val = _ % 128; rw [h1]; omega
  · have hy0 : (y 0).val < 256 := (y 0).isLt
    have hy1 : (y 1).val < 2816 := (y 1).isLt
    refine ⟨_, (List.mem_ofFn' _ _).mpr ⟨⟨21 - (y 1).val / 128, by omega⟩, rfl⟩, ?_⟩
    rw [Rect.mem_set_unit]
    intro a
    match a with
    | ⟨0, _⟩ => show 0 ≤ (y 0).val ∧ (y 0).val < 0 + 256; omega
    | ⟨1, _⟩ =>
      show 128 * (21 - (21 - (y 1).val / 128)) ≤ (y 1).val ∧ (y 1).val < 128 * (21 - (21 - (y 1).val / 128)) + 128
      omega

/-! ## The body -/

set_option maxHeartbeats 4000000 in
/-- The body at a point that is not the first: the result's block from the permuted activations the scratch holds; everything
    else unchanged. -/
theorem body_rest (c : Dev nD) (i : grid0.Coords) (hi : ¬ firstPoint i)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x2816 .bf16) (harg5 : arg5.IsWhole)
    (X : S256x2816.Idx → Elt F .bf16) (W : S3x704x512.Idx → Elt F .i8) (S : S1x512.Idx → Elt F .f32)
    (O : S256x512.Idx → Elt F .bf16) (XP : S256x2816.Idx → Elt F .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ owns (c : Thread nD τ) arg5 fullShare XP)
          ∗ (iprop(owns (c : Thread nD τ) arg1 fullShare X ∗ owns (c : Thread nD τ) arg2 fullShare W ∗ owns (c : Thread nD τ) arg3 fullShare S
            ∗ owns (c : Thread nD τ) arg4 fullShare (outBlock XP W S) ∗ owns (c : Thread nD τ) arg5 fullShare XP) -∗ K ⟨⟩))
      ⊢ wp frame (wpE (defs₀ (F := F)) 𝒱₀ c none) Set.univ
          (cc0_fp6_linear i arg1 harg1 arg2 harg2 arg3 harg3 arg4 harg4 arg5 harg5) K := by
  have hW : ∀ (o : Fin 3 → ℕ) (inb : ∀ a, o a + S1x32x512.size a ≤ S3x704x512.size a),
      arg2.view.readAt (Elt F) (Rect.unit (s := S3x704x512) o S1x32x512.size inb).toLoadRect (arg2.view.rep W)
        = box W o S1x32x512.size inb := fun o inb => View.readAt_rep _ _ _
  have hX : ∀ (o : Fin 2 → ℕ) (inb : ∀ a, o a + S256x128.size a ≤ S256x2816.size a),
      arg1.view.readAt (Elt F) (Rect.unit (s := S256x2816) o S256x128.size inb).toLoadRect (arg1.view.rep X)
        = box X o S256x128.size inb := fun o inb => View.readAt_rep _ _ _
  have hS : ∀ (o : Fin 2 → ℕ) (inb : ∀ a, o a + S1x512.size a ≤ S1x512.size a),
      arg3.view.readAt (Elt F) (Rect.unit (s := S1x512) o S1x512.size inb).toLoadRect (arg3.view.rep S)
        = S := fun o inb => View.readAt_rep_full _ _ _
  have hXP : ∀ (o : Fin 2 → ℕ) (inb : ∀ a, o a + S256x2816.size a ≤ S256x2816.size a),
      arg5.view.readAt (Elt F) (Rect.unit (s := S256x2816) o S256x2816.size inb).toLoadRect (arg5.view.rep XP)
        = XP := fun o inb => View.readAt_rep_full _ _ _
  simp only [owns_eq_rep]
  iintro ⟨⟨H1, H2, H3, H4, H5⟩, Hk⟩
  sl_exec
  sl_step
  rw [show body_rest.sl.v1235 W = wmat W from rfl]
  iapply Hk
  isplitl [H1]; · iexact H1
  isplitl [H2]; · iexact H2
  isplitl [H3]; · iexact H3
  isplitl [H4]
  · rw [← owns_eq_rep]
    unfold owns
    iexists _
    isplitr
    rotate_left
    · iexact H4
    · ipureintro
      exact View.read_writes_full _ _ _ _ _
  · iexact H5

set_option maxHeartbeats 4000000 in
/-- The body at the first point: the scratch ends holding the permuted activations, and the result's block is made from them. -/
theorem body_first (c : Dev nD) (i : grid0.Coords) (hi : firstPoint i)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x2816 .bf16) (harg5 : arg5.IsWhole)
    (X : S256x2816.Idx → Elt F .bf16) (W : S3x704x512.Idx → Elt F .i8) (S : S1x512.Idx → Elt F .f32)
    (O : S256x512.Idx → Elt F .bf16) (XP : S256x2816.Idx → Elt F .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ owns (c : Thread nD τ) arg5 fullShare XP)
          ∗ (iprop(owns (c : Thread nD τ) arg1 fullShare X ∗ owns (c : Thread nD τ) arg2 fullShare W ∗ owns (c : Thread nD τ) arg3 fullShare S
            ∗ owns (c : Thread nD τ) arg4 fullShare (outBlock (permuted X) W S) ∗ owns (c : Thread nD τ) arg5 fullShare (permuted X)) -∗ K ⟨⟩))
      ⊢ wp frame (wpE (defs₀ (F := F)) 𝒱₀ c none) Set.univ
          (cc0_fp6_linear i arg1 harg1 arg2 harg2 arg3 harg3 arg4 harg4 arg5 harg5) K := by
  have hW : ∀ (o : Fin 3 → ℕ) (inb : ∀ a, o a + S1x32x512.size a ≤ S3x704x512.size a),
      arg2.view.readAt (Elt F) (Rect.unit (s := S3x704x512) o S1x32x512.size inb).toLoadRect (arg2.view.rep W)
        = box W o S1x32x512.size inb := fun o inb => View.readAt_rep _ _ _
  have hX : ∀ (o : Fin 2 → ℕ) (inb : ∀ a, o a + S256x128.size a ≤ S256x2816.size a),
      arg1.view.readAt (Elt F) (Rect.unit (s := S256x2816) o S256x128.size inb).toLoadRect (arg1.view.rep X)
        = box X o S256x128.size inb := fun o inb => View.readAt_rep _ _ _
  have hS : ∀ (o : Fin 2 → ℕ) (inb : ∀ a, o a + S1x512.size a ≤ S1x512.size a),
      arg3.view.readAt (Elt F) (Rect.unit (s := S1x512) o S1x512.size inb).toLoadRect (arg3.view.rep S)
        = S := fun o inb => View.readAt_rep_full _ _ _
  simp only [owns_eq_rep]
  iintro ⟨⟨H1, H2, H3, H4, H5⟩, Hk⟩
  sl_exec
  sl_step
  rw [show body_first.sl.v1235 W = wmat W from rfl,
    show body_first.sl.v1236 arg5 X = permuted X from (View.readAt_full _ _ _).trans (read_permPieces _ _ X),
    show body_first.sl.H5_22 X = permPieces X from rfl]
  iapply Hk
  isplitl [H1]; · iexact H1
  isplitl [H2]; · iexact H2
  isplitl [H3]; · iexact H3
  isplitl [H4]
  · rw [← owns_eq_rep]
    unfold owns
    iexists _
    isplitr
    rotate_left
    · iexact H4
    · ipureintro
      exact View.read_writes_full _ _ _ _ _
  · rw [← owns_eq_rep]
    unfold owns
    iexists _
    isplitr
    rotate_left
    · iexact H5
    · ipureintro
      exact read_permPieces _ _ X

end Cert.Kernel

end

end
-- ==== Proof.KRun.lean ====
module

public import proofs.«01_k».proof.Proof.KBody

@[expose] public section

set_option maxRecDepth 16384

noncomputable section

namespace Cert.Kernel

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline: the arrays as the region finds them; after the body each input window's staging buffer
    holds its block on the rows inside the array (past the array's end a filler that nothing reads); of the result's buffer nothing
    is said (the run forgets that window); the invariant holds the scratch at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => Scalar.ofBits .f32 0#32) (iblk m c 2 t)
    | ⟨3, _⟩ => fun _ => Scalar.ofBits .bf16 0#16
  Φ _ := Pipeline.ΦA spec0 c
  q _ := fullShare
  owed _ := 0

/-- The result's window is forgotten. -/
def fgt : Fin cfg0.W → Bool := fun w => decide (w = (3 : Fin 4))

/-- What the body finds: the activations' block; -/
theorem before_0 (c : Dev nD) (t : Fin cfg0.N) (d) : (dats m 0 c).before (0 : Fin 4) t d = iblk m c 0 t :=
  before0_0_of m (dats m 0 c) rfl (fun _ => rfl) t d
/-- the packed weights' block on the part inside the array, `d` elsewhere; -/
theorem before_1 (c : Dev nD) (t : Fin cfg0.N) (d) :
    (dats m 0 c).before (1 : Fin 4) t d = win0_1.fill (grid0.coords t) d (iblk m c 1 t) := by
  unfold Dat.before; rw [if_pos (fetch0_1 t)]; rfl
/-- the scales' likewise. -/
theorem before_2 (c : Dev nD) (t : Fin cfg0.N) (d) :
    (dats m 0 c).before (2 : Fin 4) t d = win0_2.fill (grid0.coords t) d (iblk m c 2 t) := by
  unfold Dat.before; rw [if_pos (fetch0_2 t)]; rfl

/-- The body at any point, nothing said of what it leaves in the result's block and in the scratch. -/
theorem body_any (c : Dev nD) (i : grid0.Coords)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x2816 .bf16) (harg5 : arg5.IsWhole)
    (X : S256x2816.Idx → Elt F .bf16) (W : S3x704x512.Idx → Elt F .i8) (S : S1x512.Idx → Elt F .f32)
    (O : S256x512.Idx → Elt F .bf16) (XP : S256x2816.Idx → Elt F .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ owns (c : Thread nD τ) arg5 fullShare XP)
          ∗ (iprop(owns (c : Thread nD τ) arg1 fullShare X ∗ owns (c : Thread nD τ) arg2 fullShare W ∗ owns (c : Thread nD τ) arg3 fullShare S
            ∗ (∃ O', owns (c : Thread nD τ) arg4 fullShare O') ∗ (∃ XP', owns (c : Thread nD τ) arg5 fullShare XP')) -∗ K ⟨⟩))
      ⊢ wp frame (wpE (defs₀ (F := F)) 𝒱₀ c none) Set.univ
          (cc0_fp6_linear i arg1 harg1 arg2 harg2 arg3 harg3 arg4 harg4 arg5 harg5) K := by
  by_cases hi : firstPoint i
  · iintro ⟨H, Hk⟩
    iapply (body_first c i hi arg1 harg1 arg2 harg2 arg3 harg3 arg4 harg4 arg5 harg5 X W S O XP K)
    isplitl [H]; · iexact H
    iintro ⟨H1, H2, H3, H4, H5⟩
    iapply Hk
    isplitl [H1]; · iexact H1
    isplitl [H2]; · iexact H2
    isplitl [H3]; · iexact H3
    isplitl [H4]
    · iexists _; iexact H4
    · iexists _; iexact H5
  · iintro ⟨H, Hk⟩
    iapply (body_rest c i hi arg1 harg1 arg2 harg2 arg3 harg3 arg4 harg4 arg5 harg5 X W S O XP K)
    isplitl [H]; · iexact H
    iintro ⟨H1, H2, H3, H4, H5⟩
    iapply Hk
    isplitl [H1]; · iexact H1
    isplitl [H2]; · iexact H2
    isplitl [H3]; · iexact H3
    isplitl [H4]
    · iexists _; iexact H4
    · iexists _; iexact H5

/-- The scratch at named contents is the scratch at some contents. -/
theorem scratch_of_owns (c : Dev nD) (g : S256x2816.Idx → Elt F .bf16) :
    (owns (c : Thread nD τ) (Memref.whole cc0_scratch0) fullShare g : sProp 𝕄)
      ⊢ iprop(∃ f : Buf (Elt F) ((c : Thread nD τ).loc cc0_scratch0), ((c : Thread nD τ).loc cc0_scratch0) ↦{fullShare} f) := by
  rw [owns_whole_eq]
  iintro ⟨%f, -, H⟩
  iexists f; iexact H

/-- The library's body obligation: from `body_any` at the point's staging buffers. -/
theorem body_obligation (c : Dev nD) : BodyObligationLoose (dats m 0 c) (defs₀ (F := F)) 𝒱₀ () Set.univ fgt := fun t => by
  rw [bigSep_W0, bigSep_W0]
  simp only [show fgt (0 : Fin 4) = false from rfl, show fgt (1 : Fin 4) = false from rfl, show fgt (2 : Fin 4) = false from rfl,
    show fgt (3 : Fin 4) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f, Hs⟩, Hp⟩, Ho, ⟨%d0, H0⟩, ⟨%d1, H1⟩, ⟨%d2, H2⟩, ⟨%d3, H3⟩⟩
  rw [before_0 m c t d0, before_1 m c t d1, before_2 m c t d2]
  iapply (body_any (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (iblk m c 0 t)
    (win0_1.fill (grid0.coords t) d1 (iblk m c 1 t)) (win0_2.fill (grid0.coords t) d2 (iblk m c 2 t)) d3 f _)
  isplitl [H0 H1 H2 H3 Hs]
  · isplitl [H0]; · iexact H0
    isplitl [H1]; · iexact H1
    isplitl [H2]; · iexact H2
    isplitl [H3]; · iexact H3
    rw [owns_whole_eq]
    iexists f; isplitr; · ipureintro; rfl
    iexact Hs
  iintro ⟨H0, H1, H2, ⟨%o, H3⟩, ⟨%g, Hs⟩⟩
  isplitl [Hs Hp]
  · isplitl [Hs]
    · iapply (scratch_of_owns c g); iexact Hs
    · iexact Hp
  isplitl [Ho]; · iexact Ho
  have h1 : win0_1.cut (grid0.coords t) ((dats m 0 c).after 1 t) = iblk m c 1 t := win0_1.cut_fill _ _ _
  have h2 : win0_2.cut (grid0.coords t) ((dats m 0 c).after 2 t) = iblk m c 2 t := win0_2.cut_fill _ _ _
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [h1]; try iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  · iexists o; iexact H3

/-- The run: from any memory with zero counters every weakly fair execution of @main terminates, and at the end the argument
    arrays hold what they held and every semaphore counter is zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 launch0 defs₀ 𝒱₀ fgt m ρ main
    (hbody := body_obligation m)
    (hshare := fun c => (dats m 0 c).share_full fun _ => rfl) (howed := fun _ _ => rfl)
    (V := V m) (hmain := hmain m 𝒱₀) (hA := fun _ _ => rfl) (hΦ := fun _ _ => rfl)
    (Q' := _)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.Kernel

end

end
-- ==== Proof.KIBody.lean ====
module

public import proofs.«01_k».proof.Proof.Gen.KernelIdeal.Frame
public import proofs.«01_k».proof.Proof.Gen.KernelIdeal.Skeleton
public import Idealize.ShloMosaic.Lib.Pipeline.KitQuiescent
public import Idealize.ShloMosaic.Lib.Pipeline.TableIdle
public import Idealize.ShloMosaic.Lib.Tactic
public import Idealize.ShloMosaic.Lib.VecWindow
public import Idealize.ShloMosaic.Lib.ValueIdx

@[expose] public section

set_option maxRecDepth 16384

noncomputable section

namespace Cert.KernelIdeal

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-- The condition of the kernel's one branch: the grid point is the first. -/
abbrev firstPoint (i : grid0.Coords) : Prop :=
  Scalar.cmpi .ne (Scalar.extui (Scalar.cmpi .eq (BitVec.ofNat 32 (i 0).val) 0#32) : BitVec 32) 0#32 = 1#1

/-- A unit box of an array of contents `X`: the box's words. -/
abbrev box {s : Shape} {e : EltTy} (X : s.Idx → Elt F e) (o size : Fin s.rank → ℕ) (inb : ∀ a, o a + size a ≤ s.size a) :
    (Rect.unit (s := s) o size inb).toLoadRect.shape.Idx → Elt F e :=
  fun x => X ((Rect.unit (s := s) o size inb).toLoadRect.idx x)

/-! ## The decoded weights -/

/-- Rows `32 r` to `32 r + 31` of a byte plane lie in the window. -/
theorem inb_rows (p : Fin 3) (r : Fin 22) (a : Fin 3) : (![p.val, 32 * r.val, 0] : Fin 3 → ℕ) a + S1x32x512.size a ≤ S3x704x512.size a := by
  have hp := p.isLt
  have hr := r.isLt
  match a with
  | ⟨0, _⟩ => show p.val + 1 ≤ 3; omega
  | ⟨1, _⟩ => show 32 * r.val + 32 ≤ 704; omega
  | ⟨2, _⟩ => show 0 + 512 ≤ 512; omega

/-- The bytes of plane `p`, rows `32 r` to `32 r + 31`, four rows to a 32-bit word. -/
def words (W : S3x704x512.Idx → Elt F .i8) (p : Fin 3) (r : Fin 22) : IVec S8x512 32 :=
  bitcast S8x512 32 (shapeCast S32x512 (box W ![p.val, 32 * r.val, 0] S1x32x512.size (inb_rows p r)) shapeCasts_S1x32x512_S32x512 : IVec S32x512 8)
    bitcasts_S32x512_w8_S8x512_w32

/-- Every byte of a word, a code `s e e e m m` in its low six bits, becomes the byte `s 0 0 e e e m m`. -/
def spread (w : IVec S8x512 32) : IVec S8x512 32 :=
  andi (addi w (broadcast S8x512 1616928864#32)) (broadcast S8x512 2678038431#32)

/-- The words of field `f` of the packed rows whose three bytes are in the words `b0`, `b1`, `b2`. -/
def fieldWords (f : Fin 4) (b0 b1 b2 : IVec S8x512 32) : IVec S8x512 32 :=
  match f with
  | ⟨0, _⟩ => spread (andi b0 (broadcast S8x512 1061109567#32))
  | ⟨1, _⟩ => spread (ori (andi (shrui b0 (broadcast S8x512 6#32)) (broadcast S8x512 50529027#32))
      (andi (shli b1 (broadcast S8x512 2#32)) (broadcast S8x512 1010580540#32)))
  | ⟨2, _⟩ => spread (ori (andi (shrui b1 (broadcast S8x512 4#32)) (broadcast S8x512 252645135#32))
      (andi (shli b2 (broadcast S8x512 4#32)) (broadcast S8x512 808464432#32)))
  | ⟨3, _⟩ => ori (andi b2 (broadcast S8x512 2155905152#32))
      (andi (shrui b2 (broadcast S8x512 2#32)) (broadcast S8x512 522133279#32))

/-- Field `f` of packed rows `32 r` to `32 r + 31`, decoded. -/
def piece (W : S3x704x512.Idx → Elt F .i8) (r : Fin 22) (f : Fin 4) : FVec F S32x512 .bf16 :=
  extf .bf16 (bitcastToFloat .fp8e5m2 (bitcast S32x512 8 (fieldWords f (words W 0 r) (words W 1 r) (words W 2 r)) bitcasts_S8x512_w32_S32x512_w8) : FVec F S32x512 .fp8e5m2)
    bitsLt_fp8e5m2_bf16

/-- The 88 decoded pieces, in the order they are laid on top of each other: four fields for each 32 packed rows. -/
def pieces (W : S3x704x512.Idx → Elt F .i8) : List ((s : Shape) × (s.Idx → Elt F .bf16)) :=
  List.ofFn fun n : Fin 88 => ⟨S32x512, piece W ⟨n.val / 4, by omega⟩ ⟨n.val % 4, by omega⟩⟩

/-- The pieces stack to the weight matrix's shape. -/
theorem concatenates_pieces (W : S3x704x512.Idx → Elt F .i8) : Shape.Concatenates ((pieces (F := F) W).map (·.1)) S2816x512 0 := by
  have e : (pieces (F := F) W).map (·.1) = List.ofFn fun _ : Fin 88 => S32x512 := by
    unfold pieces; rw [List.map_ofFn]; rfl
  rw [e]; decide

/-- The decoded weight matrix of a block. -/
def wmat (W : S3x704x512.Idx → Elt F .i8) : FVec F S2816x512 .bf16 :=
  concatenate S2816x512 0 (pieces W) (concatenates_pieces W)

/-- What the body leaves in the result's block from the permuted activations `XP`, the packed block `W` and the scales `S`. -/
def outBlock (XP : S256x2816.Idx → Elt F .bf16) (W : S3x704x512.Idx → Elt F .i8) (S : S1x512.Idx → Elt F .f32) : S256x512.Idx → Elt F .bf16 :=
  k0_pay2 (wmat W) XP S

/-! ## The permuted activations -/

/-- Columns `128 b` to `128 b + 127` lie in the activations. -/
theorem inb_cols (b : Fin 22) (a : Fin 2) : (![0, 128 * b.val] : Fin 2 → ℕ) a + S256x128.size a ≤ S256x2816.size a := by
  have hb := b.isLt
  match a with
  | ⟨0, _⟩ => show 0 + 256 ≤ 256; omega
  | ⟨1, _⟩ => show 128 * b.val + 128 ≤ 2816; omega

/-- Columns `128 b` to `128 b + 127` of the activations, permuted. -/
def permPiece (X : S256x2816.Idx → Elt F .bf16) (b : Fin 22) : S256x128.Idx → Elt F .bf16 :=
  k0_pay4 k0_pay3 (box X ![0, 128 * b.val] S256x128.size (inb_cols b))

/-- The 22 stores of permuted columns, the last first. -/
def permPieces (X : S256x2816.Idx → Elt F .bf16) : List (View.Piece (Elt F) S256x2816 .bf16) :=
  List.ofFn fun k : Fin 22 => ⟨Rect.unit (s := S256x2816) ![0, 128 * (21 - k.val)] S256x128.size (inb_cols ⟨21 - k.val, by omega⟩),
    permPiece X ⟨21 - k.val, by omega⟩⟩

/-- The permuted activations: every group of 128 columns permuted by itself. -/
def permuted (X : S256x2816.Idx → Elt F .bf16) : S256x2816.Idx → Elt F .bf16 := fun y =>
  permPiece X ⟨(y 1).val / 128, by have := (y 1).isLt; change (y 1).val < 2816 at this; omega⟩
    (ValueIdx.ix2 (y 0) (⟨(y 1).val % 128, Nat.mod_lt _ (by decide)⟩ : Fin 128))

/-- The 22 stores leave the permuted activations, whatever the buffer held. -/
theorem read_permPieces {sp : Space} (v : View sig .tc sp S256x2816 .bf16) (f : v.ty.Contents (Elt F)) (X : S256x2816.Idx → Elt F .bf16) :
    v.read (Elt F) (v.writes (Elt F) f (permPieces X)) = permuted X := by
  funext y
  refine View.read_writes_apply_of_pieces v f (permuted X) (permPieces X) ?_ y ?_
  · intro p hp x
    obtain ⟨k, rfl⟩ := (List.mem_ofFn' _ _).mp hp
    have hx0 : (x 0).val < 256 := (x 0).isLt
    have hx1 : (x 1).val < 128 := (x 1).isLt
    have hk := k.isLt
    unfold permuted
    show permPiece X _ x = permPiece X _ _
    have h1 : (((Rect.unit (s := S256x2816) ![0, 128 * (21 - k.val)] S256x128.size (inb_cols ⟨21 - k.val, by omega⟩)).emb x) 1).val
        = 128 * (21 - k.val) + 1 * (x 1).val := rfl
    have h0 : (((Rect.unit (s := S256x2816) ![0, 128 * (21 - k.val)] S256x128.size (inb_cols ⟨21 - k.val, by omega⟩)).emb x) 0).val
        = 0 + 1 * (x 0).val := rfl
    congr 1
    · apply Fin.ext
      show 21 - k.val = _ / 128
      rw [h1]; omega
    · funext a
      match a with
      | ⟨0, _⟩ => apply Fin.ext; show (x 0).val = _; exact (by rw [h0]; omega)
      | ⟨1, _⟩ => apply Fin.ext; show (x 1).val = _ % 128; rw [h1]; omega
  · have hy0 : (y 0).val < 256 := (y 0).isLt
    have hy1 : (y 1).val < 2816 := (y 1).isLt
    refine ⟨_, (List.mem_ofFn' _ _).mpr ⟨⟨21 - (y 1).val / 128, by omega⟩, rfl⟩, ?_⟩
    rw [Rect.mem_set_unit]
    intro a
    match a with
    | ⟨0, _⟩ => show 0 ≤ (y 0).val ∧ (y 0).val < 0 + 256; omega
    | ⟨1, _⟩ =>
      show 128 * (21 - (21 - (y 1).val / 128)) ≤ (y 1).val ∧ (y 1).val < 128 * (21 - (21 - (y 1).val / 128)) + 128
      omega

/-! ## The body -/

set_option maxHeartbeats 4000000 in
/-- The body at a point that is not the first: the result's block from the permuted activations the scratch holds; everything
    else unchanged. -/
theorem body_rest (c : Dev nD) (i : grid0.Coords) (hi : ¬ firstPoint i)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x2816 .bf16) (harg5 : arg5.IsWhole)
    (X : S256x2816.Idx → Elt F .bf16) (W : S3x704x512.Idx → Elt F .i8) (S : S1x512.Idx → Elt F .f32)
    (O : S256x512.Idx → Elt F .bf16) (XP : S256x2816.Idx → Elt F .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ owns (c : Thread nD τ) arg5 fullShare XP)
          ∗ (iprop(owns (c : Thread nD τ) arg1 fullShare X ∗ owns (c : Thread nD τ) arg2 fullShare W ∗ owns (c : Thread nD τ) arg3 fullShare S
            ∗ owns (c : Thread nD τ) arg4 fullShare (outBlock XP W S) ∗ owns (c : Thread nD τ) arg5 fullShare XP) -∗ K ⟨⟩))
      ⊢ wp frame (wpE (defs₀ (F := F)) 𝒱₀ c none) Set.univ
          (cc0_fp6_linear i arg1 harg1 arg2 harg2 arg3 harg3 arg4 harg4 arg5 harg5) K := by
  have hW : ∀ (o : Fin 3 → ℕ) (inb : ∀ a, o a + S1x32x512.size a ≤ S3x704x512.size a),
      arg2.view.readAt (Elt F) (Rect.unit (s := S3x704x512) o S1x32x512.size inb).toLoadRect (arg2.view.rep W)
        = box W o S1x32x512.size inb := fun o inb => View.readAt_rep _ _ _
  have hX : ∀ (o : Fin 2 → ℕ) (inb : ∀ a, o a + S256x128.size a ≤ S256x2816.size a),
      arg1.view.readAt (Elt F) (Rect.unit (s := S256x2816) o S256x128.size inb).toLoadRect (arg1.view.rep X)
        = box X o S256x128.size inb := fun o inb => View.readAt_rep _ _ _
  have hS : ∀ (o : Fin 2 → ℕ) (inb : ∀ a, o a + S1x512.size a ≤ S1x512.size a),
      arg3.view.readAt (Elt F) (Rect.unit (s := S1x512) o S1x512.size inb).toLoadRect (arg3.view.rep S)
        = S := fun o inb => View.readAt_rep_full _ _ _
  have hXP : ∀ (o : Fin 2 → ℕ) (inb : ∀ a, o a + S256x2816.size a ≤ S256x2816.size a),
      arg5.view.readAt (Elt F) (Rect.unit (s := S256x2816) o S256x2816.size inb).toLoadRect (arg5.view.rep XP)
        = XP := fun o inb => View.readAt_rep_full _ _ _
  simp only [owns_eq_rep]
  iintro ⟨⟨H1, H2, H3, H4, H5⟩, Hk⟩
  sl_exec
  sl_step
  rw [show body_rest.sl.v1235 W = wmat W from rfl]
  iapply Hk
  isplitl [H1]; · iexact H1
  isplitl [H2]; · iexact H2
  isplitl [H3]; · iexact H3
  isplitl [H4]
  · rw [← owns_eq_rep]
    unfold owns
    iexists _
    isplitr
    rotate_left
    · iexact H4
    · ipureintro
      exact View.read_writes_full _ _ _ _ _
  · iexact H5

set_option maxHeartbeats 4000000 in
/-- The body at the first point: the scratch ends holding the permuted activations, and the result's block is made from them. -/
theorem body_first (c : Dev nD) (i : grid0.Coords) (hi : firstPoint i)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x2816 .bf16) (harg5 : arg5.IsWhole)
    (X : S256x2816.Idx → Elt F .bf16) (W : S3x704x512.Idx → Elt F .i8) (S : S1x512.Idx → Elt F .f32)
    (O : S256x512.Idx → Elt F .bf16) (XP : S256x2816.Idx → Elt F .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ owns (c : Thread nD τ) arg5 fullShare XP)
          ∗ (iprop(owns (c : Thread nD τ) arg1 fullShare X ∗ owns (c : Thread nD τ) arg2 fullShare W ∗ owns (c : Thread nD τ) arg3 fullShare S
            ∗ owns (c : Thread nD τ) arg4 fullShare (outBlock (permuted X) W S) ∗ owns (c : Thread nD τ) arg5 fullShare (permuted X)) -∗ K ⟨⟩))
      ⊢ wp frame (wpE (defs₀ (F := F)) 𝒱₀ c none) Set.univ
          (cc0_fp6_linear i arg1 harg1 arg2 harg2 arg3 harg3 arg4 harg4 arg5 harg5) K := by
  have hW : ∀ (o : Fin 3 → ℕ) (inb : ∀ a, o a + S1x32x512.size a ≤ S3x704x512.size a),
      arg2.view.readAt (Elt F) (Rect.unit (s := S3x704x512) o S1x32x512.size inb).toLoadRect (arg2.view.rep W)
        = box W o S1x32x512.size inb := fun o inb => View.readAt_rep _ _ _
  have hX : ∀ (o : Fin 2 → ℕ) (inb : ∀ a, o a + S256x128.size a ≤ S256x2816.size a),
      arg1.view.readAt (Elt F) (Rect.unit (s := S256x2816) o S256x128.size inb).toLoadRect (arg1.view.rep X)
        = box X o S256x128.size inb := fun o inb => View.readAt_rep _ _ _
  have hS : ∀ (o : Fin 2 → ℕ) (inb : ∀ a, o a + S1x512.size a ≤ S1x512.size a),
      arg3.view.readAt (Elt F) (Rect.unit (s := S1x512) o S1x512.size inb).toLoadRect (arg3.view.rep S)
        = S := fun o inb => View.readAt_rep_full _ _ _
  simp only [owns_eq_rep]
  iintro ⟨⟨H1, H2, H3, H4, H5⟩, Hk⟩
  sl_exec
  sl_step
  rw [show body_first.sl.v1235 W = wmat W from rfl,
    show body_first.sl.v1236 arg5 X = permuted X from (View.readAt_full _ _ _).trans (read_permPieces _ _ X),
    show body_first.sl.H5_22 X = permPieces X from rfl]
  iapply Hk
  isplitl [H1]; · iexact H1
  isplitl [H2]; · iexact H2
  isplitl [H3]; · iexact H3
  isplitl [H4]
  · rw [← owns_eq_rep]
    unfold owns
    iexists _
    isplitr
    rotate_left
    · iexact H4
    · ipureintro
      exact View.read_writes_full _ _ _ _ _
  · rw [← owns_eq_rep]
    unfold owns
    iexists _
    isplitr
    rotate_left
    · iexact H5
    · ipureintro
      exact read_permPieces _ _ X

end Cert.KernelIdeal

end

end
-- ==== Proof.KIFrame.lean ====
module

public import proofs.«01_k».proof.Proof.KIBody

@[expose] public section

set_option maxRecDepth 16384

noncomputable section

namespace Cert.KernelIdeal

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline: the arrays as the region finds them; after the body each input window's staging buffer
    holds its block on the rows inside the array (past the array's end a filler that nothing reads); of the result's buffer nothing
    is said (the run forgets that window); the invariant holds the scratch at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => Scalar.ofBits .f32 0#32) (iblk m c 2 t)
    | ⟨3, _⟩ => fun _ => Scalar.ofBits .bf16 0#16
  Φ _ := Pipeline.ΦA spec0 c
  q _ := fullShare
  owed _ := 0

/-- The result's window is forgotten. -/
def fgt : Fin cfg0.W → Bool := fun w => decide (w = (3 : Fin 4))

/-- What the body finds: the activations' block; -/
theorem before_0 (c : Dev nD) (t : Fin cfg0.N) (d) : (dats m 0 c).before (0 : Fin 4) t d = iblk m c 0 t :=
  before0_0_of m (dats m 0 c) rfl (fun _ => rfl) t d
/-- the packed weights' block on the part inside the array, `d` elsewhere; -/
theorem before_1 (c : Dev nD) (t : Fin cfg0.N) (d) :
    (dats m 0 c).before (1 : Fin 4) t d = win0_1.fill (grid0.coords t) d (iblk m c 1 t) := by
  unfold Dat.before; rw [if_pos (fetch0_1 t)]; rfl
/-- the scales' likewise. -/
theorem before_2 (c : Dev nD) (t : Fin cfg0.N) (d) :
    (dats m 0 c).before (2 : Fin 4) t d = win0_2.fill (grid0.coords t) d (iblk m c 2 t) := by
  unfold Dat.before; rw [if_pos (fetch0_2 t)]; rfl

/-- The body at any point, nothing said of what it leaves in the result's block and in the scratch. -/
theorem body_any (c : Dev nD) (i : grid0.Coords)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x2816 .bf16) (harg5 : arg5.IsWhole)
    (X : S256x2816.Idx → Elt F .bf16) (W : S3x704x512.Idx → Elt F .i8) (S : S1x512.Idx → Elt F .f32)
    (O : S256x512.Idx → Elt F .bf16) (XP : S256x2816.Idx → Elt F .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ owns (c : Thread nD τ) arg5 fullShare XP)
          ∗ (iprop(owns (c : Thread nD τ) arg1 fullShare X ∗ owns (c : Thread nD τ) arg2 fullShare W ∗ owns (c : Thread nD τ) arg3 fullShare S
            ∗ (∃ O', owns (c : Thread nD τ) arg4 fullShare O') ∗ (∃ XP', owns (c : Thread nD τ) arg5 fullShare XP')) -∗ K ⟨⟩))
      ⊢ wp frame (wpE (defs₀ (F := F)) 𝒱₀ c none) Set.univ
          (cc0_fp6_linear i arg1 harg1 arg2 harg2 arg3 harg3 arg4 harg4 arg5 harg5) K := by
  by_cases hi : firstPoint i
  · iintro ⟨H, Hk⟩
    iapply (body_first c i hi arg1 harg1 arg2 harg2 arg3 harg3 arg4 harg4 arg5 harg5 X W S O XP K)
    isplitl [H]; · iexact H
    iintro ⟨H1, H2, H3, H4, H5⟩
    iapply Hk
    isplitl [H1]; · iexact H1
    isplitl [H2]; · iexact H2
    isplitl [H3]; · iexact H3
    isplitl [H4]
    · iexists _; iexact H4
    · iexists _; iexact H5
  · iintro ⟨H, Hk⟩
    iapply (body_rest c i hi arg1 harg1 arg2 harg2 arg3 harg3 arg4 harg4 arg5 harg5 X W S O XP K)
    isplitl [H]; · iexact H
    iintro ⟨H1, H2, H3, H4, H5⟩
    iapply Hk
    isplitl [H1]; · iexact H1
    isplitl [H2]; · iexact H2
    isplitl [H3]; · iexact H3
    isplitl [H4]
    · iexists _; iexact H4
    · iexists _; iexact H5

/-- The scratch at named contents is the scratch at some contents. -/
theorem scratch_of_owns (c : Dev nD) (g : S256x2816.Idx → Elt F .bf16) :
    (owns (c : Thread nD τ) (Memref.whole cc0_scratch0) fullShare g : sProp 𝕄)
      ⊢ iprop(∃ f : Buf (Elt F) ((c : Thread nD τ).loc cc0_scratch0), ((c : Thread nD τ).loc cc0_scratch0) ↦{fullShare} f) := by
  rw [owns_whole_eq]
  iintro ⟨%f, -, H⟩
  iexists f; iexact H

/-- The library's body obligation: from `body_any` at the point's staging buffers. -/
theorem body_obligation (c : Dev nD) : BodyObligationLoose (dats m 0 c) (defs₀ (F := F)) 𝒱₀ () Set.univ fgt := fun t => by
  rw [bigSep_W0, bigSep_W0]
  simp only [show fgt (0 : Fin 4) = false from rfl, show fgt (1 : Fin 4) = false from rfl, show fgt (2 : Fin 4) = false from rfl,
    show fgt (3 : Fin 4) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%f, Hs⟩, Hp⟩, Ho, ⟨%d0, H0⟩, ⟨%d1, H1⟩, ⟨%d2, H2⟩, ⟨%d3, H3⟩⟩
  rw [before_0 m c t d0, before_1 m c t d1, before_2 m c t d2]
  iapply (body_any (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (iblk m c 0 t)
    (win0_1.fill (grid0.coords t) d1 (iblk m c 1 t)) (win0_2.fill (grid0.coords t) d2 (iblk m c 2 t)) d3 f _)
  isplitl [H0 H1 H2 H3 Hs]
  · isplitl [H0]; · iexact H0
    isplitl [H1]; · iexact H1
    isplitl [H2]; · iexact H2
    isplitl [H3]; · iexact H3
    rw [owns_whole_eq]
    iexists f; isplitr; · ipureintro; rfl
    iexact Hs
  iintro ⟨H0, H1, H2, ⟨%o, H3⟩, ⟨%g, Hs⟩⟩
  isplitl [Hs Hp]
  · isplitl [Hs]
    · iapply (scratch_of_owns c g); iexact Hs
    · iexact Hp
  isplitl [Ho]; · iexact Ho
  have h1 : win0_1.cut (grid0.coords t) ((dats m 0 c).after 1 t) = iblk m c 1 t := win0_1.cut_fill _ _ _
  have h2 : win0_2.cut (grid0.coords t) ((dats m 0 c).after 2 t) = iblk m c 2 t := win0_2.cut_fill _ _ _
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [h1]; try iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  · iexists o; iexact H3

/-- The run: from any memory with zero counters every weakly fair execution of @main terminates, and at the end the argument
    arrays hold what they held and every semaphore counter is zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 launch0 defs₀ 𝒱₀ fgt m ρ main
    (hbody := body_obligation m)
    (hshare := fun c => (dats m 0 c).share_full fun _ => rfl) (howed := fun _ _ => rfl)
    (V := V m) (hmain := hmain m 𝒱₀) (hA := fun _ _ => rfl) (hΦ := fun _ _ => rfl)
    (Q' := _)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.KernelIdeal

end

end
-- ==== Proof.Words.lean ====
module

public import proofs.«01_k».proof.Proof.Fp6

@[expose] public section

set_option maxRecDepth 16384

noncomputable section

namespace Cert.Fp6

open Idealize.ShloMosaic

/-! ## Four bytes in a word -/

/-- Byte `t` of a word, byte 0 the lowest. -/
def byteOf (t : Nat) (w : BitVec 32) : BitVec 8 := w.extractLsb' (8 * t) 8

/-- The spreading of the four codes of a word at once. -/
def spreadWord (w : BitVec 32) : BitVec 32 := (w + 1616928864#32) &&& 2678038431#32

/-- The words of codes `f` of four packed rows, whose bytes are in the words `b0`, `b1`, `b2`, not yet spread. -/
def codeWord (f : Fin 4) (b0 b1 b2 : BitVec 32) : BitVec 32 :=
  match f with
  | ⟨0, _⟩ => b0 &&& 1061109567#32
  | ⟨1, _⟩ => ((b0 >>> 6) &&& 50529027#32) ||| ((b1 <<< 2) &&& 1010580540#32)
  | ⟨2, _⟩ => ((b1 >>> 4) &&& 252645135#32) ||| ((b2 <<< 4) &&& 808464432#32)
  | ⟨3, _⟩ => (b2 >>> 2) &&& 1061109567#32

/-- Byte `t` of the codes' word is the code of the bytes `t`. -/
theorem byteOf_codeWord (f : Fin 4) (t : Nat) (ht : t < 4) (b0 b1 b2 : BitVec 32) :
    byteOf t (codeWord f b0 b1 b2) = code f (byteOf t b0) (byteOf t b1) (byteOf t b2) := by
  apply BitVec.eq_of_getLsbD_eq
  intro i hi
  fin_cases f <;> interval_cases t <;> interval_cases i <;> simp [byteOf, codeWord, code]

/-- A number below `2 ^ 32` is put together from its four bytes. -/
theorem nat_bytes (n : Nat) (hn : n < 4294967296) :
    n = n % 256 + 256 * (n / 256 % 256) + 65536 * (n / 65536 % 256) + 16777216 * (n / 16777216 % 256) := by
  omega

/-- Adding a byte to each of four small bytes carries nowhere. -/
theorem nat_noCarry (n0 n1 n2 n3 : Nat) (h0 : n0 < 64) (h1 : n1 < 64) (h2 : n2 < 64) (h3 : n3 < 64) (s : Nat)
    (hs : s = (n0 + 96) + 256 * (n1 + 96) + 65536 * (n2 + 96) + 16777216 * (n3 + 96)) :
    s < 4294967296 ∧ s % 256 = n0 + 96 ∧ s / 256 % 256 = n1 + 96 ∧ s / 65536 % 256 = n2 + 96 ∧ s / 16777216 % 256 = n3 + 96 := by
  omega

/-- Byte `t` of a word as a number. -/
theorem byteOf_toNat (t : Nat) (w : BitVec 32) : (byteOf t w).toNat = w.toNat / 2 ^ (8 * t) % 256 := by
  unfold byteOf
  rw [BitVec.extractLsb'_toNat, Nat.shiftRight_eq_div_pow]

/-- Adding `0x60` to each byte below 64 is adding it byte by byte. -/
theorem byteOf_add (t : Nat) (ht : t < 4) (w : BitVec 32) (h : ∀ i, i < 4 → (byteOf i w).toNat < 64) :
    byteOf t (w + 1616928864#32) = byteOf t w + 0x60#8 := by
  have hw := nat_bytes w.toNat w.isLt
  have h0 : w.toNat % 256 < 64 := by have := h 0 (by decide); rw [byteOf_toNat] at this; simpa using this
  have h1 : w.toNat / 256 % 256 < 64 := by have := h 1 (by decide); rw [byteOf_toNat] at this; simpa using this
  have h2 : w.toNat / 65536 % 256 < 64 := by have := h 2 (by decide); rw [byteOf_toNat] at this; simpa using this
  have h3 : w.toNat / 16777216 % 256 < 64 := by have := h 3 (by decide); rw [byteOf_toNat] at this; simpa using this
  have hs := nat_noCarry _ _ _ _ h0 h1 h2 h3 (w.toNat + 1616928864) (by omega)
  have hsum : (w + 1616928864#32).toNat = w.toNat + 1616928864 := by
    rw [BitVec.toNat_add]
    exact Nat.mod_eq_of_lt hs.1
  apply BitVec.eq_of_toNat_eq
  rw [BitVec.toNat_add, byteOf_toNat, byteOf_toNat, hsum]
  obtain ⟨_, e0, e1, e2, e3⟩ := hs
  generalize hW : w.toNat + 1616928864 = v at e0 e1 e2 e3 ⊢
  generalize w.toNat = n at h0 h1 h2 h3 e0 e1 e2 e3 ⊢
  match t, ht with
  | 0, _ => show v / 1 % 256 = (n / 1 % 256 + 96) % 256; omega
  | 1, _ => show v / 256 % 256 = (n / 256 % 256 + 96) % 256; omega
  | 2, _ => show v / 65536 % 256 = (n / 65536 % 256 + 96) % 256; omega
  | 3, _ => show v / 16777216 % 256 = (n / 16777216 % 256 + 96) % 256; omega

/-- Spreading a word of codes spreads each byte: no sum carries into the next byte. -/
theorem byteOf_spreadWord (t : Nat) (ht : t < 4) (w : BitVec 32) (h : ∀ i, i < 4 → (byteOf i w).toNat < 64) :
    byteOf t (spreadWord w) = spreadByte (byteOf t w) := by
  have ha : byteOf t (spreadWord w) = byteOf t (w + 1616928864#32) &&& byteOf t 2678038431#32 := by
    unfold byteOf spreadWord
    exact BitVec.extractLsb'_and
  have hm : byteOf t 2678038431#32 = 0x9F#8 := by
    match t, ht with
    | 0, _ => decide
    | 1, _ => decide
    | 2, _ => decide
    | 3, _ => decide
  rw [ha, hm, byteOf_add t ht w h]
  unfold spreadByte
  exact rfl

/-- The words the kernel computes from the three words of bytes, for field `f`. -/
def fieldWord (f : Fin 4) (b0 b1 b2 : BitVec 32) : BitVec 32 :=
  match f with
  | ⟨0, _⟩ => spreadWord (b0 &&& 1061109567#32)
  | ⟨1, _⟩ => spreadWord (((b0 >>> 6) &&& 50529027#32) ||| ((b1 <<< 2) &&& 1010580540#32))
  | ⟨2, _⟩ => spreadWord (((b1 >>> 4) &&& 252645135#32) ||| ((b2 <<< 4) &&& 808464432#32))
  | ⟨3, _⟩ => (b2 &&& 2155905152#32) ||| ((b2 >>> 2) &&& 522133279#32)

/-- The last field's bytes are already in place: spreading the shifted byte is the two masks. -/
theorem spreadByte_last (b : BitVec 8) : (b &&& 0x80#8) ||| ((b >>> 2) &&& 0x1F#8) = spreadByte (b >>> 2) := by
  revert b
  decide +kernel

/-- Byte `t` of the kernel's word for field `f` is the spread code of the bytes `t`. -/
theorem byteOf_fieldWord (f : Fin 4) (t : Nat) (ht : t < 4) (b0 b1 b2 : BitVec 32) :
    byteOf t (fieldWord f b0 b1 b2) = spreadByte (code f (byteOf t b0) (byteOf t b1) (byteOf t b2)) := by
  have key : ∀ g : Fin 4, byteOf t (spreadWord (codeWord g b0 b1 b2)) = spreadByte (code g (byteOf t b0) (byteOf t b1) (byteOf t b2)) := by
    intro g
    rw [byteOf_spreadWord t ht _ (fun i hi => by rw [byteOf_codeWord g i hi]; exact code_lt _ _ _ _), byteOf_codeWord g t ht]
  match f with
  | ⟨0, _⟩ => exact key 0
  | ⟨1, _⟩ => exact key 1
  | ⟨2, _⟩ => exact key 2
  | ⟨3, _⟩ =>
    show byteOf t ((b2 &&& 2155905152#32) ||| ((b2 >>> 2) &&& 522133279#32)) = spreadByte (byteOf t b2 >>> 2)
    rw [← spreadByte_last]
    apply BitVec.eq_of_getLsbD_eq
    intro i hi
    interval_cases t <;> interval_cases i <;> simp [byteOf]

end Cert.Fp6

end

end
-- ==== Proof.Block.lean ====
module

public import proofs.«01_k».proof.Proof.Words
public import proofs.«01_k».proof.Proof.KIBody
public import Idealize.ShloMosaic.Lib.MatmulPlain
public import Idealize.ShloMosaic.Lib.Pointwise
public import Idealize.ShloMosaic.Lib.Pipeline.Value

@[expose] public section

set_option maxRecDepth 16384

noncomputable section

namespace Cert.KernelIdeal

open Cert.KernelIdeal.Gen Cert.Fp6
open Idealize.ShloMosaic
open scoped BigOperators

/-- The two spellings of a rank-2 index. -/
theorem ix2_eq {n0 n1 : Nat} (a : Fin n0) (b : Fin n1) : Idealize.ShloMosaic.ix2 a b = ValueIdx.ix2 a b := by
  funext d
  match d with
  | ⟨0, _⟩ => rfl
  | ⟨1, _⟩ => rfl

/-- The result's block at a row and a column: the product's sum, times 4096, times the column's scale. -/
theorem outBlock_apply (XP : S256x2816.Idx → Elt Ideal .bf16) (W : S3x704x512.Idx → Elt Ideal .i8) (S : S1x512.Idx → Elt Ideal .f32)
    (r : Fin 256) (c : Fin 512) :
    outBlock (F := Ideal) XP W S (ValueIdx.ix2 r c)
      = ((∑ k : Fin 2816, (XP (ValueIdx.ix2 r k) : EReal) * wmat (F := Ideal) W (ValueIdx.ix2 k c)) * (FloatOps.ofBits .f32 0x45800000#32 : Ideal .f32))
          * S (ValueIdx.ix2 (0 : Fin 1) c) := by
  unfold outBlock
  generalize wmat (F := Ideal) W = M
  pointwise [k0_pay2]
  simp only [ix2_eq]

/-- The decoded weight matrix at a row `k` and a column: of the piece `k / 32`, row `k % 32`. -/
theorem wmat_apply (W : S3x704x512.Idx → Elt Ideal .i8) (k : Fin 2816) (c : Fin 512) :
    wmat (F := Ideal) W (ValueIdx.ix2 k c)
      = piece (F := Ideal) W ⟨k.val / 32 / 4, by omega⟩ ⟨k.val / 32 % 4, by omega⟩ (ValueIdx.ix2 (⟨k.val % 32, by omega⟩ : Fin 32) c) := by
  unfold wmat
  exact concatenate_ofFn_apply (s₁ := S32x512) (N := 88) (t := S2816x512) (0 : Fin 2)
    (fun n : Fin 88 => piece (F := Ideal) W ⟨n.val / 4, by omega⟩ ⟨n.val % 4, by omega⟩)
    (concatenates_pieces W) rfl 32 rfl (ValueIdx.ix2 k c) ⟨k.val / 32, by omega⟩ rfl (ValueIdx.ix2 (⟨k.val % 32, by omega⟩ : Fin 32) c) rfl
    (fun b hb => by
      match b with
      | ⟨0, _⟩ => exact absurd rfl hb
      | ⟨1, _⟩ => rfl)

/-- Byte `t` of the word at row `a` of a plane's 32 rows is the byte of row `4 a + t`. -/
theorem byteOf_words (W : S3x704x512.Idx → Elt Ideal .i8) (p : Fin 3) (r : Fin 22) (a : Fin 8) (t : Nat) (ht : t < 4) (c : Fin 512) :
    byteOf t (words (F := Ideal) W p r (ValueIdx.ix2 a c)) = W (ValueIdx.ix3 p (⟨32 * r.val + 4 * a.val + t, by omega⟩ : Fin 704) c) := by
  apply BitVec.eq_of_getLsbD_eq
  intro i hi
  unfold byteOf words
  rw [BitVec.getLsbD_extractLsb', bitcast_8_32_getLsbD_ix2 _ _ a c (8 * t + i) (by omega) (⟨4 * a.val + t, by omega⟩ : Fin 32) (by simp; omega)]
  rw [show (8 * t + i) % 8 = i by omega]
  simp only [hi, decide_true, Bool.true_and]
  congr 1
  rw [shapeCast_apply _ shapeCasts_S1x32x512_S32x512 (ValueIdx.ix2 (⟨4 * a.val + t, by omega⟩ : Fin 32) c)
    (ValueIdx.ix3 (0 : Fin 1) (⟨4 * a.val + t, by omega⟩ : Fin 32) c) (by rewrite [Shape.rowMajor_val_three, Shape.rowMajor_val_two]; show (0 * 32 + (4 * a.val + t)) * 512 + c.val = (4 * a.val + t) * 512 + c.val; omega)]
  show W _ = W _
  congr 1
  funext b
  match b with
  | ⟨0, _⟩ => apply Fin.ext; show p.val + 1 * 0 = p.val; omega
  | ⟨1, _⟩ => apply Fin.ext; show 32 * r.val + 1 * (4 * a.val + t) = 32 * r.val + 4 * a.val + t; omega
  | ⟨2, _⟩ => apply Fin.ext; show 0 + 1 * c.val = c.val; omega

/-- The field's words at an index are the scalar's. -/
theorem fieldWords_apply (f : Fin 4) (b0 b1 b2 : IVec S8x512 32) (i : S8x512.Idx) :
    fieldWords f b0 b1 b2 i = fieldWord f (b0 i) (b1 i) (b2 i) := by
  fin_cases f <;> rfl

/-- A decoded piece at row `j` and column `c`: the value of the code of the three bytes of packed row `32 r + j`. -/
theorem piece_apply (W : S3x704x512.Idx → Elt Ideal .i8) (r : Fin 22) (f : Fin 4) (j : Fin 32) (c : Fin 512) :
    piece (F := Ideal) W r f (ValueIdx.ix2 j c)
      = e5m2 (code f (W (ValueIdx.ix3 (0 : Fin 3) (⟨32 * r.val + j.val, by omega⟩ : Fin 704) c))
          (W (ValueIdx.ix3 (1 : Fin 3) (⟨32 * r.val + j.val, by omega⟩ : Fin 704) c)) (W (ValueIdx.ix3 (2 : Fin 3) (⟨32 * r.val + j.val, by omega⟩ : Fin 704) c))) := by
  show (FloatOps.ofBits .fp8e5m2 (bitcast S32x512 8 (fieldWords f (words W 0 r) (words W 1 r) (words W 2 r)) bitcasts_S8x512_w32_S32x512_w8 (ValueIdx.ix2 j c)) : Ideal .fp8e5m2) = _
  unfold e5m2
  congr 1
  have hb : bitcast S32x512 8 (fieldWords f (words (F := Ideal) W 0 r) (words (F := Ideal) W 1 r) (words (F := Ideal) W 2 r)) bitcasts_S8x512_w32_S32x512_w8 (ValueIdx.ix2 j c)
      = byteOf (j.val % 4) (fieldWords f (words (F := Ideal) W 0 r) (words (F := Ideal) W 1 r) (words (F := Ideal) W 2 r) (ValueIdx.ix2 (⟨j.val / 4, by omega⟩ : Fin 8) c)) := by
    generalize fieldWords f (words (F := Ideal) W 0 r) (words (F := Ideal) W 1 r) (words (F := Ideal) W 2 r) = x
    apply BitVec.eq_of_getLsbD_eq
    intro q hq
    rw [bitcast_getLsbD x bitcasts_S8x512_w32_S32x512_w8 (ValueIdx.ix2 j c) q hq (by decide)]
    have hrow : S32x512.row (ValueIdx.ix2 j c) = j.val := rfl
    have hm : (S32x512.row (ValueIdx.ix2 j c) * 8 + q) % 32 = 8 * (j.val % 4) + q := by rw [hrow]; omega
    unfold byteOf
    rw [BitVec.getLsbD_extractLsb', hm]
    simp only [hq, decide_true, Bool.true_and]
    congr 2
    funext a
    match a with
    | ⟨0, _⟩ =>
      apply Fin.ext
      exact (Shape.Bitcasts.srcIdx_row bitcasts_S8x512_w32_S32x512_w8 _ _ _ ⟨0, Nat.zero_lt_two⟩ rfl).trans (by rw [hrow]; show (j.val * 8 + q) / 32 = j.val / 4; omega)
    | ⟨1, _⟩ =>
      apply Fin.ext
      exact Shape.Bitcasts.srcIdx_other bitcasts_S8x512_w32_S32x512_w8 _ _ _ ⟨1, Nat.one_lt_two⟩ (by show ¬ 1 + 2 = 2; omega)
  have hj : (⟨32 * r.val + 4 * (j.val / 4) + j.val % 4, by omega⟩ : Fin 704) = ⟨32 * r.val + j.val, by omega⟩ := Fin.ext (by show 32 * r.val + 4 * (j.val / 4) + j.val % 4 = 32 * r.val + j.val; omega)
  have hw : ∀ p : Fin 3, byteOf (j.val % 4) (words (F := Ideal) W p r (ValueIdx.ix2 (⟨j.val / 4, by omega⟩ : Fin 8) c)) = W (ValueIdx.ix3 p (⟨32 * r.val + j.val, by omega⟩ : Fin 704) c) := by
    intro p
    rw [byteOf_words W p r (⟨j.val / 4, by omega⟩ : Fin 8) (j.val % 4) (by omega) c]
    exact congrArg (fun q => W (ValueIdx.ix3 p q c)) hj
  rw [hb, fieldWords_apply, byteOf_fieldWord f _ (by omega), hw, hw, hw]

/-- The source lane of lane `l` of a group of 128: `4 (l % 32) + l / 32`. -/
theorem srcLane (a : Fin 256) (l : Fin 128) : k0_pay3 (ValueIdx.ix2 a l) = BitVec.ofNat 32 (4 * (l.val % 32) + l.val / 32) := by
  pointwise [k0_pay3]
  rw [show ValueIdx.ix2 a l 1 = l from rfl]
  clear a
  revert l
  decide +kernel

/-- A source lane is no negative number, so it is taken as it is. -/
theorem srcLane_wrap (l : Fin 128) : (Scalar.select (IntOp.cmpi CmpIPredicate.slt (BitVec.ofNat 32 (4 * (l.val % 32) + l.val / 32)) 0#32)
      (IntOp.addi (BitVec.ofNat 32 (4 * (l.val % 32) + l.val / 32)) 128#32) (BitVec.ofNat 32 (4 * (l.val % 32) + l.val / 32))).toNat % 128
    = 4 * (l.val % 32) + l.val / 32 := by
  revert l
  decide +kernel

/-- The permuted activations: column `k` of a group of 128 comes from column `4 (k % 32) + k % 128 / 32` of the group. -/
theorem permuted_apply (X : S256x2816.Idx → Elt Ideal .bf16) (r : Fin 256) (k : Fin 2816) :
    permuted (F := Ideal) X (ValueIdx.ix2 r k) = X (ValueIdx.ix2 r (⟨128 * (k.val / 128) + 4 * (k.val % 32) + k.val % 128 / 32, by omega⟩ : Fin 2816)) := by
  unfold permuted permPiece
  have h := srcLane r ⟨k.val % 128, by omega⟩
  generalize k0_pay3 = L at h ⊢
  pointwise [k0_pay4]
  unfold box
  congr 1
  funext b
  match b with
  | ⟨0, _⟩ => apply Fin.ext; show 0 + 1 * r.val = r.val; omega
  | ⟨1, _⟩ =>
    apply Fin.ext
    change 128 * (k.val / 128) + 1 * ((Scalar.select (IntOp.cmpi CmpIPredicate.slt (L (ValueIdx.ix2 r ⟨k.val % 128, _⟩)) 0#32)
      (IntOp.addi (L (ValueIdx.ix2 r ⟨k.val % 128, _⟩)) 128#32) (L (ValueIdx.ix2 r ⟨k.val % 128, _⟩))).toNat % 128)
      = 128 * (k.val / 128) + 4 * (k.val % 32) + k.val % 128 / 32
    rw [h, srcLane_wrap ⟨k.val % 128, by omega⟩]
    show 128 * (k.val / 128) + 1 * (4 * (k.val % 128 % 32) + k.val % 128 / 32) = _
    omega

/-- The decoded weight at column `k` of the product, from the three bytes of its packed row. -/
theorem wmat_code (W : S3x704x512.Idx → Elt Ideal .i8) (k : Fin 2816) (c : Fin 512) :
    wmat (F := Ideal) W (ValueIdx.ix2 k c)
      = e5m2 (code ⟨k.val / 32 % 4, by omega⟩ (W (ValueIdx.ix3 (0 : Fin 3) (⟨32 * (k.val / 32 / 4) + k.val % 32, by omega⟩ : Fin 704) c))
          (W (ValueIdx.ix3 (1 : Fin 3) (⟨32 * (k.val / 32 / 4) + k.val % 32, by omega⟩ : Fin 704) c))
          (W (ValueIdx.ix3 (2 : Fin 3) (⟨32 * (k.val / 32 / 4) + k.val % 32, by omega⟩ : Fin 704) c))) :=
  (wmat_apply W k c).trans (piece_apply W _ _ _ c)

/-- A column of the result's block depends on the same column of the packed block and of the scales only. -/
theorem outBlock_congr (XP : S256x2816.Idx → Elt Ideal .bf16) (W W' : S3x704x512.Idx → Elt Ideal .i8) (S S' : S1x512.Idx → Elt Ideal .f32)
    (r : Fin 256) (c : Fin 512) (hW : ∀ (p : Fin 3) (q : Fin 704), W (ValueIdx.ix3 p q c) = W' (ValueIdx.ix3 p q c))
    (hS : S (ValueIdx.ix2 (0 : Fin 1) c) = S' (ValueIdx.ix2 (0 : Fin 1) c)) :
    outBlock (F := Ideal) XP W S (ValueIdx.ix2 r c) = outBlock (F := Ideal) XP W' S' (ValueIdx.ix2 r c) := by
  rw [outBlock_apply, outBlock_apply, hS]
  have e : ∀ k : Fin 2816, wmat (F := Ideal) W (ValueIdx.ix2 k c) = wmat (F := Ideal) W' (ValueIdx.ix2 k c) := fun k => by
    rw [wmat_code, wmat_code, hW, hW, hW]
  simp only [e]

end Cert.KernelIdeal

end

end
-- ==== Proof.KIValue.lean ====
module

public import proofs.«01_k».proof.Proof.Block
public import proofs.«01_k».proof.Proof.KIFrame
public import Idealize.ShloMosaic.Lib.Pipeline.ValueKit.Geometry

@[expose] public section

set_option maxRecDepth 16384

noncomputable section

namespace Cert.KernelIdeal

open Cert.KernelIdeal.Gen Cert.Fp6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

variable (m : (ℓ : Loc nD τ sig) → Buf (Elt Ideal) ℓ) (ρ : Dev nD → PrngReg)

/-! ## The proof data that tracks the values -/

/-- The activations as the region finds them. -/
def acts (c : Dev nD) : S256x2816.Idx → Elt Ideal .bf16 := V m c main_v1

/-- The packed weights' block of a point, a filler past the array's end; -/
def packedBlk (c : Dev nD) (t : Fin cfg0.N) : S3x704x512.Idx → Elt Ideal .i8 :=
  win0_1.fill (grid0.coords t) (fun _ => (0#8 : BitVec 8)) (iblk m c 1 t)
/-- and the scales'. -/
def scaleBlk (c : Dev nD) (t : Fin cfg0.N) : S1x512.Idx → Elt Ideal .f32 :=
  win0_2.fill (grid0.coords t) (fun _ => (FloatOps.ofBits .f32 0#32 : Ideal .f32)) (iblk m c 2 t)

/-- The invariant before point `n`: at the start the scratch at any contents, from then on at the permuted activations. -/
def inv (c : Dev nD) (n : ℕ) : sProp 𝕄 :=
  if n = 0 then Pipeline.ΦA spec0 c
  else iprop(owns (c : Thread nD τ) (Memref.whole cc0_scratch0) fullShare (permuted (F := Ideal) (acts m c)) ∗ ∃ r, prngReg c r)

/-- The invariant at the start, -/
theorem inv_zero (c : Dev nD) : inv m c 0 = Pipeline.ΦA spec0 c := if_pos rfl
/-- and later. -/
theorem inv_pos (c : Dev nD) (n : ℕ) (h : n ≠ 0) :
    inv m c n = iprop(owns (c : Thread nD τ) (Memref.whole cc0_scratch0) fullShare (permuted (F := Ideal) (acts m c)) ∗ ∃ r, prngReg c r) := if_neg h

/-- The proof data: as for the frame, the result's buffer holding the block's values after the body, the scratch tracked. -/
def datv (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => packedBlk m c t
    | ⟨2, _⟩ => scaleBlk m c t
    | ⟨3, _⟩ => outBlock (F := Ideal) (permuted (F := Ideal) (acts m c)) (packedBlk m c t) (scaleBlk m c t)
  Φ t := inv m c t.val
  q _ := fullShare
  owed _ := 0

/-- What the body finds: the activations' block; -/
theorem beforev_0 (c : Dev nD) (t : Fin cfg0.N) (d) : (datv m 0 c).before (0 : Fin 4) t d = iblk m c 0 t :=
  before0_0_of m (datv m 0 c) rfl (fun _ => rfl) t d
/-- the packed weights' block on the part inside the array, `d` elsewhere; -/
theorem beforev_1 (c : Dev nD) (t : Fin cfg0.N) (d) :
    (datv m 0 c).before (1 : Fin 4) t d = win0_1.fill (grid0.coords t) d (iblk m c 1 t) := by
  unfold Dat.before; rw [if_pos (fetch0_1 t)]; rfl
/-- the scales' likewise. -/
theorem beforev_2 (c : Dev nD) (t : Fin cfg0.N) (d) :
    (datv m 0 c).before (2 : Fin 4) t d = win0_2.fill (grid0.coords t) d (iblk m c 2 t) := by
  unfold Dat.before; rw [if_pos (fetch0_2 t)]; rfl

/-- The activations' window does not move, -/
theorem index_0 : ∀ t : Fin cfg0.N, win0_0.index t = ![0, 0] := (by decide +kernel : ∀ t : Fin grid0.N, _)
/-- the packed weights' moves along the columns, -/
theorem index_1 : ∀ t : Fin cfg0.N, win0_1.index t = ![0, 0, t.val] := (by decide +kernel : ∀ t : Fin grid0.N, _)
/-- so do the scales' -/
theorem index_2 : ∀ t : Fin cfg0.N, win0_2.index t = ![0, t.val] := (by decide +kernel : ∀ t : Fin grid0.N, _)
/-- and the result's. -/
theorem index_3 : ∀ t : Fin cfg0.N, win0_3.index t = ![0, t.val] := (by decide +kernel : ∀ t : Fin grid0.N, _)

/-- The three moving windows are cut alike: along the columns only. -/
theorem xsizes : ∀ t : Fin cfg0.N, (win0_1.xsize (grid0.coords t) 0 = 3 ∧ win0_1.xsize (grid0.coords t) 1 = 704
      ∧ win0_1.xsize (grid0.coords t) 2 = win0_3.xsize (grid0.coords t) 1)
    ∧ (win0_2.xsize (grid0.coords t) 0 = 1 ∧ win0_2.xsize (grid0.coords t) 1 = win0_3.xsize (grid0.coords t) 1) :=
  (by decide +kernel : ∀ t : Fin grid0.N, _)

/-- The first point is point 0. -/
theorem firstPoint_iff : ∀ t : Fin cfg0.N, firstPoint (grid0.coords t) ↔ t.val = 0 :=
  (by decide +kernel : ∀ t : Fin grid0.N, _)

/-- The activations' block is the whole array. -/
theorem iblk0_eq (c : Dev nD) (t : Fin cfg0.N) : iblk m c 0 t = acts m c := by
  funext y
  blk_simp [iblk]
  unfold acts
  show V m c main_v1 _ = V m c main_v1 _
  congr 1
  blk_ext [index_0]

/-- A column inside the array is moved by the packed weights' fetch, -/
theorem moved_1 (t : Fin cfg0.N) (p : Fin 3) (q : Fin 704) (k : Fin 512) (hk : k.val < win0_3.xsize (grid0.coords t) 1) :
    win0_1.moved (grid0.coords t) (ValueIdx.ix3 p q k) = true := by
  rw [win0_1.moved_iff]
  intro a
  obtain ⟨⟨h0, h1, h2⟩, -⟩ := xsizes t
  match a with
  | ⟨0, _⟩ => exact lt_of_lt_of_eq p.isLt h0.symm
  | ⟨1, _⟩ => exact lt_of_lt_of_eq q.isLt h1.symm
  | ⟨2, _⟩ => exact lt_of_lt_of_eq hk h2.symm

/-- and by the scales'. -/
theorem moved_2 (t : Fin cfg0.N) (k : Fin 512) (hk : k.val < win0_3.xsize (grid0.coords t) 1) :
    win0_2.moved (grid0.coords t) (ValueIdx.ix2 (0 : Fin 1) k) = true := by
  rw [win0_2.moved_iff]
  intro a
  obtain ⟨-, h0, h1⟩ := xsizes t
  match a with
  | ⟨0, _⟩ => exact lt_of_lt_of_eq Nat.one_pos h0.symm
  | ⟨1, _⟩ => exact lt_of_lt_of_eq hk h1.symm

/-- There the filler of the packed block does not show, -/
theorem fill_1 (t : Fin cfg0.N) (d d' : S3x704x512.Idx → Elt Ideal .i8) (g : (win0_1.xblock (grid0.coords t)).Idx → Elt Ideal .i8)
    (p : Fin 3) (q : Fin 704) (k : Fin 512) (hk : k.val < win0_3.xsize (grid0.coords t) 1) :
    win0_1.fill (grid0.coords t) d g (ValueIdx.ix3 p q k) = win0_1.fill (grid0.coords t) d' g (ValueIdx.ix3 p q k) := by
  unfold Window.fill
  rw [dif_pos (moved_1 t p q k hk), dif_pos (moved_1 t p q k hk)]

/-- nor the scales'. -/
theorem fill_2 (t : Fin cfg0.N) (d d' : S1x512.Idx → Elt Ideal .f32) (g : (win0_2.xblock (grid0.coords t)).Idx → Elt Ideal .f32)
    (k : Fin 512) (hk : k.val < win0_3.xsize (grid0.coords t) 1) :
    win0_2.fill (grid0.coords t) d g (ValueIdx.ix2 (0 : Fin 1) k) = win0_2.fill (grid0.coords t) d' g (ValueIdx.ix2 (0 : Fin 1) k) := by
  unfold Window.fill
  rw [dif_pos (moved_2 t k hk), dif_pos (moved_2 t k hk)]

/-- What lies past the array's end in the packed block and in the scales does not reach the part of the result that is written. -/
theorem cut_out (t : Fin cfg0.N) (XP : S256x2816.Idx → Elt Ideal .bf16) (d1 d1' : S3x704x512.Idx → Elt Ideal .i8)
    (g1 : (win0_1.xblock (grid0.coords t)).Idx → Elt Ideal .i8) (d2 d2' : S1x512.Idx → Elt Ideal .f32)
    (g2 : (win0_2.xblock (grid0.coords t)).Idx → Elt Ideal .f32) :
    win0_3.cut (grid0.coords t) (outBlock (F := Ideal) XP (win0_1.fill (grid0.coords t) d1 g1) (win0_2.fill (grid0.coords t) d2 g2))
      = win0_3.cut (grid0.coords t) (outBlock (F := Ideal) XP (win0_1.fill (grid0.coords t) d1' g1) (win0_2.fill (grid0.coords t) d2' g2)) := by
  funext j
  have h1 : (j 1).val < win0_3.xsize (grid0.coords t) 1 := (j 1).isLt
  have e : win0_3.xinj (grid0.coords t) j = ValueIdx.ix2 (win0_3.xinj (grid0.coords t) j 0 : Fin 256) (win0_3.xinj (grid0.coords t) j 1 : Fin 512) :=
    ValueIdx.eq_ix2 _
  show outBlock (F := Ideal) XP _ _ (win0_3.xinj (grid0.coords t) j) = outBlock (F := Ideal) XP _ _ (win0_3.xinj (grid0.coords t) j)
  rw [e]
  refine outBlock_congr XP _ _ _ _ _ _ (fun p q => ?_) ?_
  · exact fill_1 t d1 d1' g1 p q _ h1
  · exact fill_2 t d2 d2' g2 _ h1

/-- The body at any point: the result's block, and the scratch at the permuted activations, filled at the first point. -/
theorem body_value (c : Dev nD) (t : Fin cfg0.N)
    (arg1 : Memref sig .tc .vmem S256x2816 .bf16) (harg1 : arg1.IsWhole) (arg2 : Memref sig .tc .vmem S3x704x512 .i8) (harg2 : arg2.IsWhole)
    (arg3 : Memref sig .tc .vmem S1x512 .f32) (harg3 : arg3.IsWhole) (arg4 : Memref sig .tc .vmem S256x512 .bf16) (harg4 : arg4.IsWhole)
    (X : S256x2816.Idx → Elt Ideal .bf16) (hX : X = acts m c) (W : S3x704x512.Idx → Elt Ideal .i8) (S : S1x512.Idx → Elt Ideal .f32)
    (O : S256x512.Idx → Elt Ideal .bf16) (K : PUnit → sProp 𝕄) :
    iprop((owns (c : Thread nD τ) arg1 fullShare X ∗ owns (c : Thread nD τ) arg2 fullShare W ∗ owns (c : Thread nD τ) arg3 fullShare S
            ∗ owns (c : Thread nD τ) arg4 fullShare O ∗ inv m c t.val)
          ∗ (iprop(owns (c : Thread nD τ) arg1 fullShare X ∗ owns (c : Thread nD τ) arg2 fullShare W ∗ owns (c : Thread nD τ) arg3 fullShare S
            ∗ owns (c : Thread nD τ) arg4 fullShare (outBlock (F := Ideal) (permuted (F := Ideal) (acts m c)) W S) ∗ inv m c (t.val + 1)) -∗ K ⟨⟩))
      ⊢ wp frame (wpE (defs₀ (F := Ideal)) 𝒱₀ c none) Set.univ
          (cc0_fp6_linear (grid0.coords t) arg1 harg1 arg2 harg2 arg3 harg3 arg4 harg4 (Memref.whole cc0_scratch0) (Memref.isWhole_whole _)) K := by
  subst hX
  rw [inv_pos m c (t.val + 1) (Nat.succ_ne_zero _)]
  by_cases ht : t.val = 0
  · rw [ht, inv_zero]
    unfold Pipeline.ΦA
    rw [scopedRest0_eq]
    iintro ⟨⟨H1, H2, H3, H4, ⟨⟨%f, Hs⟩, Hp⟩⟩, Hk⟩
    iapply (body_first (F := Ideal) c (grid0.coords t) ((firstPoint_iff t).mpr ht) arg1 harg1 arg2 harg2 arg3 harg3 arg4 harg4
      (Memref.whole cc0_scratch0) (Memref.isWhole_whole _) (acts m c) W S O f K)
    isplitl [H1 H2 H3 H4 Hs]
    · isplitl [H1]; · iexact H1
      isplitl [H2]; · iexact H2
      isplitl [H3]; · iexact H3
      isplitl [H4]; · iexact H4
      rw [owns_whole_eq]
      iexists f; isplitr; · ipureintro; rfl
      iexact Hs
    iintro ⟨H1, H2, H3, H4, H5⟩
    iapply Hk
    isplitl [H1]; · iexact H1
    isplitl [H2]; · iexact H2
    isplitl [H3]; · iexact H3
    isplitl [H4]; · iexact H4
    isplitl [H5]; · iexact H5
    iexact Hp
  · rw [inv_pos m c t.val ht]
    iintro ⟨⟨H1, H2, H3, H4, ⟨Hs, Hp⟩⟩, Hk⟩
    iapply (body_rest (F := Ideal) c (grid0.coords t) (fun h => ht ((firstPoint_iff t).mp h)) arg1 harg1 arg2 harg2 arg3 harg3 arg4 harg4
      (Memref.whole cc0_scratch0) (Memref.isWhole_whole _) (acts m c) W S O (permuted (F := Ideal) (acts m c)) K)
    isplitl [H1 H2 H3 H4 Hs]
    · isplitl [H1]; · iexact H1
      isplitl [H2]; · iexact H2
      isplitl [H3]; · iexact H3
      isplitl [H4]; · iexact H4
      iexact Hs
    iintro ⟨H1, H2, H3, H4, H5⟩
    iapply Hk
    isplitl [H1]; · iexact H1
    isplitl [H2]; · iexact H2
    isplitl [H3]; · iexact H3
    isplitl [H4]; · iexact H4
    isplitl [H5]; · iexact H5
    iexact Hp

/-- The library's body obligation: from `body_value` at the point's staging buffers. -/
theorem body_obligation_value (c : Dev nD) : BodyObligationLoose (datv m 0 c) (defs₀ (F := Ideal)) 𝒱₀ () Set.univ := fun t => by
  rw [bigSep_W0, bigSep_W0]
  simp only
  rw [show (datv m 0 c).Φ t.succ = inv m c (t.val + 1) from rfl, show (datv m 0 c).Φ t.castSucc = inv m c t.val from rfl,
    show (datv m 0 c).owesAt () t.succ = (datv m 0 c).owesAt () t.castSucc from rfl]
  iintro ⟨Hi, Ho, ⟨%d0, H0⟩, ⟨%d1, H1⟩, ⟨%d2, H2⟩, ⟨%d3, H3⟩⟩
  rw [beforev_0 m c t d0, beforev_1 m c t d1, beforev_2 m c t d2]
  iapply (body_value m c t (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (iblk m c 0 t) (iblk0_eq m c t)
    (win0_1.fill (grid0.coords t) d1 (iblk m c 1 t)) (win0_2.fill (grid0.coords t) d2 (iblk m c 2 t)) ((datv m 0 c).before (3 : Fin 4) t d3) _)
  isplitl [H0 H1 H2 H3 Hi]
  · isplitl [H0]; · iexact H0
    isplitl [H1]; · iexact H1
    isplitl [H2]; · iexact H2
    isplitl [H3]; · iexact H3
    iexact Hi
  iintro ⟨H0, H1, H2, H3, Hi⟩
  isplitl [Hi]; · iexact Hi
  isplitl [Ho]; · iexact Ho
  have h1 : win0_1.cut (grid0.coords t) ((datv m 0 c).after 1 t) = iblk m c 1 t := win0_1.cut_fill _ _ _
  have h2 : win0_2.cut (grid0.coords t) ((datv m 0 c).after 2 t) = iblk m c 2 t := win0_2.cut_fill _ _ _
  have h3 : win0_3.cut (grid0.coords t) ((datv m 0 c).after 3 t)
      = win0_3.cut (grid0.coords t) (outBlock (F := Ideal) (permuted (F := Ideal) (acts m c)) (win0_1.fill (grid0.coords t) d1 (iblk m c 1 t)) (win0_2.fill (grid0.coords t) d2 (iblk m c 2 t))) :=
    cut_out t _ _ _ _ _ _ _
  isplitl [H0]; · iexact H0
  isplitl [H1]
  · iexists d1
    change _ ⊢ owns (c : Thread nD τ) (st0_1 t) fullShare (win0_1.fill (grid0.coords t) d1 (win0_1.cut (grid0.coords t) ((datv m 0 c).after 1 t)))
    rw [h1]; try iexact H1
  isplitl [H2]
  · iexists d2
    change _ ⊢ owns (c : Thread nD τ) (st0_2 t) fullShare (win0_2.fill (grid0.coords t) d2 (win0_2.cut (grid0.coords t) ((datv m 0 c).after 2 t)))
    rw [h2]; try iexact H2
  · iexists outBlock (F := Ideal) (permuted (F := Ideal) (acts m c)) (win0_1.fill (grid0.coords t) d1 (iblk m c 1 t)) (win0_2.fill (grid0.coords t) d2 (iblk m c 2 t))
    change _ ⊢ owns (c : Thread nD τ) (st0_3 t) fullShare (win0_3.fill (grid0.coords t)
      (outBlock (F := Ideal) (permuted (F := Ideal) (acts m c)) (win0_1.fill (grid0.coords t) d1 (iblk m c 1 t)) (win0_2.fill (grid0.coords t) d2 (iblk m c 2 t)))
      (win0_3.cut (grid0.coords t) ((datv m 0 c).after 3 t)))
    rw [h3, win0_3.fill_cut]; try iexact H3

/-- The run: the arrays end as the proof data says, the other buffers as the region found them. -/
theorem run_value : θ_run defs (onTc (τ := τ) (main (F := Ideal))) (s₀ m ρ) (Pipeline.FramePost cfgs (datv m) 0 (V m)) :=
  Pipeline.θ_run_frame_track cfgs (datv m) 0 launch0 defs₀ 𝒱₀ m ρ main
    (hbody := body_obligation_value m)
    (hshare := fun c => (datv m 0 c).share_full fun _ => rfl) (howed := fun _ _ => rfl)
    (V := V m) (hmain := hmain m 𝒱₀) (hA := fun _ _ => rfl)
    (hin := fun c => by
      show _ ⊢ inv m c 0
      rw [inv_zero])
    (hout := fun c => by
      show inv m c cfg0.N ⊢ _
      rw [inv_pos m c cfg0.N (by decide)]
      unfold Pipeline.ΦA
      rw [scopedRest0_eq]
      iintro ⟨Hs, Hp⟩
      isplitl [Hs]
      · iapply (scratch_of_owns (F := Ideal) c _); iexact Hs
      · iexact Hp)

/-! ## The result array in closed form -/

/-- The result at row `r` and column `n`, from the activations, the byte planes and the scales the region finds. -/
def kval (X : S256x2816.Idx → Elt Ideal .bf16) (W : S3x704x27520.Idx → Elt Ideal .i8) (S : S1x27520.Idx → Elt Ideal .f32)
    (r : Fin 256) (n : Fin 27520) : EReal :=
  ((∑ k : Fin 2816, (permuted (F := Ideal) X (ValueIdx.ix2 r k) : EReal)
      * e5m2 (code ⟨k.val / 32 % 4, by omega⟩ (W (ValueIdx.ix3 (0 : Fin 3) (⟨32 * (k.val / 32 / 4) + k.val % 32, by omega⟩ : Fin 704) n))
          (W (ValueIdx.ix3 (1 : Fin 3) (⟨32 * (k.val / 32 / 4) + k.val % 32, by omega⟩ : Fin 704) n))
          (W (ValueIdx.ix3 (2 : Fin 3) (⟨32 * (k.val / 32 / 4) + k.val % 32, by omega⟩ : Fin 704) n)))) * (FloatOps.ofBits .f32 0x45800000#32 : Ideal .f32))
    * S (ValueIdx.ix2 (0 : Fin 1) n)

/-- A column of the packed block inside the array is the array's, -/
theorem packedBlk_apply (c : Dev nD) (t : Fin cfg0.N) (p : Fin 3) (q : Fin 704) (k : Fin 512) (hk : k.val < win0_3.xsize (grid0.coords t) 1)
    (n : Fin 27520) (hn : n.val = t.val * 512 + k.val) : packedBlk m c t (ValueIdx.ix3 p q k) = V m c main_v0 (ValueIdx.ix3 p q n) := by
  unfold packedBlk Window.fill
  rw [dif_pos (moved_1 t p q k hk)]
  blk_simp [iblk]
  show V m c main_v0 _ = V m c main_v0 _
  congr 1
  funext a
  match a with
  | ⟨0, _⟩ => apply Fin.ext; blk_simp [index_1]
  | ⟨1, _⟩ => apply Fin.ext; blk_simp [index_1]
  | ⟨2, _⟩ => apply Fin.ext; blk_simp [index_1]; simp [hn]

/-- and of the scales'. -/
theorem scaleBlk_apply (c : Dev nD) (t : Fin cfg0.N) (k : Fin 512) (hk : k.val < win0_3.xsize (grid0.coords t) 1)
    (n : Fin 27520) (hn : n.val = t.val * 512 + k.val) : scaleBlk m c t (ValueIdx.ix2 (0 : Fin 1) k) = V m c main_v2 (ValueIdx.ix2 (0 : Fin 1) n) := by
  unfold scaleBlk Window.fill
  rw [dif_pos (moved_2 t k hk)]
  blk_simp [iblk]
  show V m c main_v2 _ = V m c main_v2 _
  congr 1
  funext a
  match a with
  | ⟨0, _⟩ => apply Fin.ext; blk_simp [index_2]; simp
  | ⟨1, _⟩ => apply Fin.ext; blk_simp [index_2]; simp [hn]

/-- The result's block at a point, at a column inside the array. -/
theorem out_point (c : Dev nD) (t : Fin cfg0.N) (r : Fin 256) (k : Fin 512) (n : Fin 27520) (hk : k.val < win0_3.xsize (grid0.coords t) 1)
    (hn : n.val = t.val * 512 + k.val) :
    outBlock (F := Ideal) (permuted (F := Ideal) (acts m c)) (packedBlk m c t) (scaleBlk m c t) (ValueIdx.ix2 r k)
      = kval (V m c main_v1) (V m c main_v0) (V m c main_v2) r n := by
  rw [outBlock_apply, scaleBlk_apply m c t k hk n hn]
  unfold kval acts
  have e : ∀ l : Fin 2816, wmat (F := Ideal) (packedBlk m c t) (ValueIdx.ix2 l k) = _ := fun l => by
    rw [wmat_code, packedBlk_apply m c t _ _ k hk n hn, packedBlk_apply m c t _ _ k hk n hn, packedBlk_apply m c t _ _ k hk n hn]
  simp only [e]

/-- The result array after the run. -/
theorem final_v3 (c : Dev nD) : (datv m 0 c).arrAt (3 : Fin 4) cfg0.N
    = fun j : S256x27520.Idx => kval (V m c main_v1) (V m c main_v0) (V m c main_v2) (j 0) (j 1) := by
  refine (datv m 0 c).arrAt_eq_of_covers (3 : Fin 4) _ (by decide +kernel) fun t hf y => ?_
  have h1 : (y 1).val < win0_3.xsize (grid0.coords t) 1 := (y 1).isLt
  have hn0 : (((win0_3.blk t).view.emb y) 0).val = (y 0).val := by blk_simp [index_3]
  have hn1 : (((win0_3.blk t).view.emb y) 1).val = t.val * 512 + (y 1).val := by blk_simp [index_3]
  have e : win0_3.xinj (grid0.coords t) y = ValueIdx.ix2 (win0_3.xinj (grid0.coords t) y 0 : Fin 256) (win0_3.xinj (grid0.coords t) y 1 : Fin 512) :=
    ValueIdx.eq_ix2 _
  exact (congrArg (outBlock (F := Ideal) (permuted (F := Ideal) (acts m c)) (packedBlk m c t) (scaleBlk m c t)) e).trans
    ((out_point m c t _ _ (((win0_3.blk t).view.emb y) 1) h1 hn1).trans
      (congrArg (fun r => kval (V m c main_v1) (V m c main_v0) (V m c main_v2) r (((win0_3.blk t).view.emb y) 1)) (Fin.ext hn0.symm)))

end Cert.KernelIdeal

end

end
-- ==== Proof.Sums.lean ====
module

public import proofs.«01_k».proof.Proof.Fp6
public import Mathlib.Data.EReal.Operations
public import Mathlib.Algebra.BigOperators.Group.Finset.Basic

@[expose] public section

noncomputable section

namespace Cert.Fp6

open Idealize.ShloMosaic
open scoped BigOperators

/-- The constant 4096 is a finite number and not negative. -/
theorem scale_eq : (FloatOps.ofBits .f32 0x45800000#32 : Ideal .f32) = ((4096 : ℝ) : EReal) := by
  simp [Ideal.ofBits, Ideal.ieee]
  rw [← EReal.coe_mul, EReal.coe_eq_coe_iff]
  norm_num

/-- A finite number that is not negative distributes over a sum of extended reals. -/
theorem sum_mul_coe {ι : Type} (s : Finset ι) (f : ι → EReal) (x : ℝ) (hx : 0 ≤ x) :
    (∑ k ∈ s, f k) * (x : EReal) = ∑ k ∈ s, f k * (x : EReal) := by
  classical
  induction s using Finset.induction_on with
  | empty => simp
  | insert a s ha ih =>
    rw [Finset.sum_insert ha, Finset.sum_insert ha, ← ih]
    exact EReal.right_distrib_of_nonneg_of_ne_top (by exact_mod_cast hx) (EReal.coe_ne_top x) _ _

/-- The columns of the product, by field and packed row: column `128 (p / 32) + 32 f + p % 32` is field `f` of packed row `p`. -/
def colEquiv : Fin 4 × Fin 704 ≃ Fin 2816 where
  toFun q := ⟨128 * (q.2.val / 32) + 32 * q.1.val + q.2.val % 32, by have h1 := q.1.isLt; have h2 := q.2.isLt; omega⟩
  invFun k := (⟨k.val / 32 % 4, by omega⟩, ⟨32 * (k.val / 128) + k.val % 32, by have := k.isLt; omega⟩)
  left_inv q := by
    have h1 := q.1.isLt
    have h2 := q.2.isLt
    refine Prod.ext (Fin.ext ?_) (Fin.ext ?_)
    · show (128 * (q.2.val / 32) + 32 * q.1.val + q.2.val % 32) / 32 % 4 = q.1.val
      omega
    · show 32 * ((128 * (q.2.val / 32) + 32 * q.1.val + q.2.val % 32) / 128) + (128 * (q.2.val / 32) + 32 * q.1.val + q.2.val % 32) % 32 = q.2.val
      omega
  right_inv k := by
    have h := k.isLt
    refine Fin.ext ?_
    show 128 * ((32 * (k.val / 128) + k.val % 32) / 32) + 32 * (k.val / 32 % 4) + (32 * (k.val / 128) + k.val % 32) % 32 = k.val
    omega

/-- A sum over the columns is the sum of the four fields' sums over the packed rows. -/
theorem sum_columns (g : Fin 2816 → EReal) :
    ∑ k, g k = ∑ p : Fin 704, g (colEquiv (0, p)) + ∑ p : Fin 704, g (colEquiv (1, p)) + ∑ p : Fin 704, g (colEquiv (2, p)) + ∑ p : Fin 704, g (colEquiv (3, p)) := by
  rw [← Equiv.sum_comp colEquiv g, Fintype.sum_prod_type, Fin.sum_univ_four]

end Cert.Fp6

end

end
-- ==== Proof.Equal.lean ====
module

public import proofs.«01_k».proof.Proof.KIValue
public import proofs.«01_k».proof.Proof.RefValue
public import proofs.«01_k».proof.Proof.Sums

@[expose] public section

set_option maxRecDepth 16384

noncomputable section

namespace Cert.KernelIdeal

open Cert.KernelIdeal.Gen Cert.Fp6
open Idealize.ShloMosaic Idealize.ShloMosaic.TcCoe
open scoped BigOperators

variable (m : (ℓ : Loc nD τ sig) → Buf (Elt Ideal) ℓ)

/-- The byte planes are the packed weights with the axes in the opposite order; -/
theorem V_main_v0 (c : Dev nD) (p : Fin 3) (q : Fin 704) (n : Fin 27520) :
    V m c main_v0 (ValueIdx.ix3 p q n) = m ((c : Thread nD τ).loc main_arg1) (ValueIdx.ix3 n q p) := by
  have e : V m c main_v0 = transpose S3x704x27520 [2, 1, 0] (m ((c : Thread nD τ).loc main_arg1)) transposes_S27520x704x3_S3x704x27520_2_1_0 := by
    show StableHlo.after hostOps0 _ (Proc.devRef .tc main_v0) = _
    after_results
  rw [e]
  exact transpose_apply _ _ _ _ (ValueIdx.ix3 n q p) (fun b => by
    match b with
    | ⟨0, _⟩ => rfl
    | ⟨1, _⟩ => rfl
    | ⟨2, _⟩ => rfl)

/-- the activations' rows are the argument's; -/
theorem V_main_v1 (c : Dev nD) (r : Fin 256) (k : Fin 2816) :
    V m c main_v1 (ValueIdx.ix2 r k) = m ((c : Thread nD τ).loc main_arg0) (ValueIdx.ix3 r (0 : Fin 1) k) := by
  have e : V m c main_v1 = shapeCast S256x2816 (m ((c : Thread nD τ).loc main_arg0)) shapeCasts_S256x1x2816_S256x2816 := by
    show StableHlo.after hostOps0 _ (Proc.devRef .tc main_v1) = _
    after_results
    rfl
  rw [e]
  exact shapeCast_apply _ shapeCasts_S256x1x2816_S256x2816 (ValueIdx.ix2 r k) (ValueIdx.ix3 r (0 : Fin 1) k)
    (by rewrite [Shape.rowMajor_val_three, Shape.rowMajor_val_two]; show (r.val * 1 + 0) * 2816 + k.val = r.val * 2816 + k.val; omega)

/-- the scales' row is the argument. -/
theorem V_main_v2 (c : Dev nD) (n : Fin 27520) :
    V m c main_v2 (ValueIdx.ix2 (0 : Fin 1) n) = m ((c : Thread nD τ).loc main_arg2) (ValueIdx.ix1 n) := by
  have e : V m c main_v2 = shapeCast S1x27520 (m ((c : Thread nD τ).loc main_arg2)) shapeCasts_S27520_S1x27520 := by
    show StableHlo.after hostOps0 _ (Proc.devRef .tc main_v2) = _
    after_results
    rfl
  rw [e]
  exact shapeCast_apply _ shapeCasts_S27520_S1x27520 (ValueIdx.ix2 (0 : Fin 1) n) (ValueIdx.ix1 n)
    (by rewrite [Shape.rowMajor_val_one, Shape.rowMajor_val_two]; show n.val = 0 * 27520 + n.val; omega)

/-- A product's term of field `f` and packed row `p`, in the kernel's order of columns. -/
theorem term_eq (X : S256x2816.Idx → Elt Ideal .bf16) (W : S3x704x27520.Idx → Elt Ideal .i8)
    (x0 : S256x1x2816.Idx → Elt Ideal .bf16) (x1 : S27520x704x3.Idx → Elt Ideal .i8)
    (hX : ∀ (r : Fin 256) (k : Fin 2816), X (ValueIdx.ix2 r k) = x0 (ValueIdx.ix3 r (0 : Fin 1) k))
    (hW : ∀ (p : Fin 3) (q : Fin 704) (n : Fin 27520), W (ValueIdx.ix3 p q n) = x1 (ValueIdx.ix3 n q p))
    (r : Fin 256) (n : Fin 27520) (k : Fin 2816) (f : Fin 4) (p : Fin 704) (hk : k.val = 128 * (p.val / 32) + 32 * f.val + p.val % 32) :
    (permuted (F := Ideal) X (ValueIdx.ix2 r k) : EReal)
        * e5m2 (code ⟨k.val / 32 % 4, by omega⟩ (W (ValueIdx.ix3 (0 : Fin 3) (⟨32 * (k.val / 32 / 4) + k.val % 32, by omega⟩ : Fin 704) n))
          (W (ValueIdx.ix3 (1 : Fin 3) (⟨32 * (k.val / 32 / 4) + k.val % 32, by omega⟩ : Fin 704) n))
          (W (ValueIdx.ix3 (2 : Fin 3) (⟨32 * (k.val / 32 / 4) + k.val % 32, by omega⟩ : Fin 704) n)))
        * (FloatOps.ofBits .f32 0x45800000#32 : Ideal .f32)
      = (x0 (ValueIdx.ix3 r (0 : Fin 1) (⟨4 * p.val + f.val, by omega⟩ : Fin 2816)) : EReal)
        * e3m2 (refCode f (x1 (ValueIdx.ix3 n p (0 : Fin 3))) (x1 (ValueIdx.ix3 n p (1 : Fin 3))) (x1 (ValueIdx.ix3 n p (2 : Fin 3)))) := by
  have hf := f.isLt
  have hp := p.isLt
  have e1 : (⟨k.val / 32 % 4, by omega⟩ : Fin 4) = f := Fin.ext (by show k.val / 32 % 4 = f.val; omega)
  have e2 : (⟨32 * (k.val / 32 / 4) + k.val % 32, by omega⟩ : Fin 704) = p :=
    Fin.ext (by show 32 * (k.val / 32 / 4) + k.val % 32 = p.val; omega)
  have e3 : (⟨128 * (k.val / 128) + 4 * (k.val % 32) + k.val % 128 / 32, by omega⟩ : Fin 2816) = ⟨4 * p.val + f.val, by omega⟩ :=
    Fin.ext (by show 128 * (k.val / 128) + 4 * (k.val % 32) + k.val % 128 / 32 = 4 * p.val + f.val; omega)
  rw [permuted_apply, e1, e2, e3, hX, hW, hW, hW, ← e5m2_code_mul]
  exact mul_assoc _ _ _

/-- The kernel's result at a row and a column is the reference's. -/
theorem kval_eq (X : S256x2816.Idx → Elt Ideal .bf16) (W : S3x704x27520.Idx → Elt Ideal .i8) (S : S1x27520.Idx → Elt Ideal .f32)
    (x0 : S256x1x2816.Idx → Elt Ideal .bf16) (x1 : S27520x704x3.Idx → Elt Ideal .i8) (x2 : S27520.Idx → Elt Ideal .f32)
    (hX : ∀ (r : Fin 256) (k : Fin 2816), X (ValueIdx.ix2 r k) = x0 (ValueIdx.ix3 r (0 : Fin 1) k))
    (hW : ∀ (p : Fin 3) (q : Fin 704) (n : Fin 27520), W (ValueIdx.ix3 p q n) = x1 (ValueIdx.ix3 n q p))
    (hS : ∀ n : Fin 27520, S (ValueIdx.ix2 (0 : Fin 1) n) = x2 (ValueIdx.ix1 n))
    (r : Fin 256) (n : Fin 27520) :
    kval X W S r n = Cert.ReferenceIdeal.Read.val_main_v160 (F := Ideal) x0 x1 x2 (ValueIdx.ix2 r n) := by
  rw [Cert.ReferenceIdeal.ref_apply]
  unfold kval
  rw [hS]
  refine congrArg (fun v : EReal => v * x2 (ValueIdx.ix1 n)) ?_
  rw [scale_eq, sum_mul_coe _ _ _ (by norm_num), ← scale_eq, sum_columns]
  unfold Cert.ReferenceIdeal.fieldSum
  refine congrArg₂ (· + ·) (congrArg₂ (· + ·) (congrArg₂ (· + ·) ?_ ?_) ?_) ?_
  · exact Finset.sum_congr rfl fun p _ => term_eq X W x0 x1 hX hW r n _ 0 p rfl
  · exact Finset.sum_congr rfl fun p _ => term_eq X W x0 x1 hX hW r n _ 1 p rfl
  · exact Finset.sum_congr rfl fun p _ => term_eq X W x0 x1 hX hW r n _ 2 p rfl
  · exact Finset.sum_congr rfl fun p _ => term_eq X W x0 x1 hX hW r n _ 3 p rfl

/-- The result array after the kernel's run is the reference's result of the arguments. -/
theorem final_eq (c : Dev nD) : (datv m 0 c).arrAt (3 : Fin 4) cfg0.N
    = Cert.ReferenceIdeal.Read.val_main_v160 (F := Ideal) (m ((c : Thread nD τ).loc main_arg0)) (m ((c : Thread nD τ).loc main_arg1))
        (m ((c : Thread nD τ).loc main_arg2)) := by
  rw [final_v3]
  funext j
  exact (kval_eq _ _ _ _ _ _ (V_main_v1 m c) (V_main_v0 m c) (V_main_v2 m c) (j 0) (j 1)).trans
    (congrArg (Cert.ReferenceIdeal.Read.val_main_v160 (F := Ideal) (m ((c : Thread nD τ).loc main_arg0)) (m ((c : Thread nD τ).loc main_arg1))
        (m ((c : Thread nD τ).loc main_arg2))) (ValueIdx.eq_ix2 (n0 := 256) (n1 := 27520) j).symm)

end Cert.KernelIdeal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.KRun
public import proofs.«01_k».proof.Proof.KIFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel runs, its arguments end unchanged and every semaphore counter ends at zero. -/
theorem frame_kernel : Cert.quiescent_Kernel := fun m ρ _ => Cert.Kernel.run_frame m ρ

/-- The kernel's ideal reading runs, its arguments end unchanged and every semaphore counter ends at zero. -/
theorem frame_kernelIdeal : Cert.quiescent_KernelIdeal := fun m ρ _ => Cert.KernelIdeal.run_frame m ρ

/-- The reference runs, its arguments end unchanged and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel computes the reference's result, at every element, over the extended reals. -/
theorem algebraic : Cert.algebraic_KernelIdeal_ReferenceIdeal := fun m g m' g' _ hargs =>
  ⟨fun c => Cert.ReferenceIdeal.Read.val_main_v160 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono
      (fun r h c => ⟨((h c).1 (3 : Fin 4)).trans (Cert.KernelIdeal.final_eq m c),
        ((h c).2 Cert.KernelIdeal.main_arg0 (Pipeline.mem_restRefs_of Cert.KernelIdeal.main_arg0 (by decide) (by decide))).trans (Cert.KernelIdeal.Gen.V_main_arg0 m c),
        ((h c).2 Cert.KernelIdeal.main_arg1 (Pipeline.mem_restRefs_of Cert.KernelIdeal.main_arg1 (by decide) (by decide))).trans (Cert.KernelIdeal.Gen.V_main_arg1 m c),
        ((h c).2 Cert.KernelIdeal.main_arg2 (Pipeline.mem_restRefs_of Cert.KernelIdeal.main_arg2 (by decide) (by decide))).trans (Cert.KernelIdeal.Gen.V_main_arg2 m c)⟩)
      (Cert.KernelIdeal.run_value m g),
    (θ_run Cert.ReferenceIdeal.defs _ _).mono
      (fun r h c => ⟨(h c).1.trans ((Cert.ReferenceIdeal.Read.val_main_v160_eq (F := Ideal) _).trans
          (congr (congrArg₂ (Cert.ReferenceIdeal.Read.val_main_v160 (F := Ideal)) (hargs c).1 (hargs c).2.1) (hargs c).2.2)), (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
